-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![1, 1024, 8, 128]⟩ ⟨4, ![1, 4096, 8, 128]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 1024, 8, 128]⟩ ⟨4, ![1, 4096, 8, 128]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v34) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S1x1024x1024 : Shape := ⟨3, ![1, 1024, 1024]⟩
abbrev S1024x1024 : Shape := ⟨2, ![1024, 1024]⟩
abbrev S1x1024x8x128 : Shape := ⟨4, ![1, 1024, 8, 128]⟩
abbrev S_ : Shape := ⟨0, ![]⟩

class Facts : Prop where
  bcast_S_S1x1024x1024 : S_.BroadcastsInDim S1x1024x1024 (![] : Fin 0 → Fin S1x1024x1024.rank)
  bcast_S_S1024x1024 : S_.BroadcastsInDim S1024x1024 (![] : Fin 0 → Fin S1024x1024.rank)
  bcast_S_S1x1024x8x128 : S_.BroadcastsInDim S1x1024x8x128 (![] : Fin 0 → Fin S1x1024x8x128.rank)

variable [Facts]

def fn {F : FTy → Type} [FloatOps F] (main_arg0 : FVec F S1x1024x1024 .f32) (main_arg1 : FVec F S1024x1024 .f32) (main_arg2 : FVec F S1x1024x8x128 .f32) (main_arg3 : FVec F S1x1024x8x128 .f32) (main_arg4 : FVec F S1024x1024 .f32) : IVec S1x1024x1024 1 × IVec S1024x1024 1 × IVec S1x1024x8x128 1 :=
  let main_v0 : FVec F S1x1024x1024 .f32 := Host.absf main_arg0
  let main_cst : FVec F S_ .f32 := constant S_ .f32 0x7F800000#32
  let main_v1 : FVec F S1x1024x1024 .f32 := broadcastInDim S1x1024x1024 ![] bcast_S_S1x1024x1024 main_cst
  let main_v2 : IVec S1x1024x1024 1 := cmpf .olt main_v0 main_v1
  let main_v3 : FVec F S1024x1024 .f32 := Host.absf main_arg1
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S1x1024x8x128 .f32 := Host.absf main_arg2
  let main_cst_1 : FVec F S_ .f32 := constant S_ .f32 0x7F800000#32
  let main_v7 : FVec F S1x1024x8x128 .f32 := broadcastInDim S1x1024x8x128 ![] bcast_S_S1x1024x8x128 main_cst_1
  let main_v8 : IVec S1x1024x8x128 1 := cmpf .olt main_v6 main_v7
  (main_v2, main_v5, main_v8)
-- ==== Pre_finite_scores_ReferenceIdeal.lean ====
abbrev S1x1024x1024 : Shape := ⟨3, ![1, 1024, 1024]⟩
abbrev S1024x1024 : Shape := ⟨2, ![1024, 1024]⟩
abbrev S1x4096x8x128 : Shape := ⟨4, ![1, 4096, 8, 128]⟩
abbrev S_ : Shape := ⟨0, ![]⟩

class Facts : Prop where
  bcast_S_S1x1024x1024 : S_.BroadcastsInDim S1x1024x1024 (![] : Fin 0 → Fin S1x1024x1024.rank)
  bcast_S_S1024x1024 : S_.BroadcastsInDim S1024x1024 (![] : Fin 0 → Fin S1024x1024.rank)
  bcast_S_S1x4096x8x128 : S_.BroadcastsInDim S1x4096x8x128 (![] : Fin 0 → Fin S1x4096x8x128.rank)

variable [Facts]

def fn {F : FTy → Type} [FloatOps F] (main_arg0 : FVec F S1x1024x1024 .f32) (main_arg1 : FVec F S1024x1024 .f32) (main_arg2 : FVec F S1x4096x8x128 .f32) (main_arg3 : FVec F S1x4096x8x128 .f32) (main_arg4 : FVec F S1024x1024 .f32) : IVec S1x1024x1024 1 × IVec S1024x1024 1 × IVec S1x4096x8x128 1 :=
  let main_v0 : FVec F S1x1024x1024 .f32 := Host.absf main_arg0
  let main_cst : FVec F S_ .f32 := constant S_ .f32 0x7F800000#32
  let main_v1 : FVec F S1x1024x1024 .f32 := broadcastInDim S1x1024x1024 ![] bcast_S_S1x1024x1024 main_cst
  let main_v2 : IVec S1x1024x1024 1 := cmpf .olt main_v0 main_v1
  let main_v3 : FVec F S1024x1024 .f32 := Host.absf main_arg1
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S1x4096x8x128 .f32 := Host.absf main_arg2
  let main_cst_1 : FVec F S_ .f32 := constant S_ .f32 0x7F800000#32
  let main_v7 : FVec F S1x4096x8x128 .f32 := broadcastInDim S1x4096x8x128 ![] bcast_S_S1x4096x8x128 main_cst_1
  let main_v8 : IVec S1x4096x8x128 1 := cmpf .olt main_v6 main_v7
  (main_v2, main_v5, main_v8)
-- ==== Kernel.lean ====
abbrev S1x1024x1024 : Shape := ⟨3, ![1, 1024, 1024]⟩
abbrev S1024x1024 : Shape := ⟨2, ![1024, 1024]⟩
abbrev S1x1024x8x128 : Shape := ⟨4, ![1, 1024, 8, 128]⟩
abbrev S1024x8x128 : Shape := ⟨3, ![1024, 8, 128]⟩
abbrev S8x1024x128 : Shape := ⟨3, ![8, 1024, 128]⟩
abbrev S8x1x1024x128 : Shape := ⟨4, ![8, 1, 1024, 128]⟩
abbrev S8x2x1024x128 : Shape := ⟨4, ![8, 2, 1024, 128]⟩
abbrev S2x8 : Shape := ⟨2, ![2, 8]⟩
abbrev S8 : Shape := ⟨1, ![8]⟩
abbrev S_ : Shape := ⟨0, ![]⟩
abbrev S1x1 : Shape := ⟨2, ![1, 1]⟩
abbrev S1 : Shape := ⟨1, ![1]⟩
abbrev S1x2x1024x128 : Shape := ⟨4, ![1, 2, 1024, 128]⟩
abbrev S2x1024x128 : Shape := ⟨3, ![2, 1024, 128]⟩
abbrev S1x1x1024x128 : Shape := ⟨4, ![1, 1, 1024, 128]⟩
abbrev S1024x128 : Shape := ⟨2, ![1024, 128]⟩
abbrev S1024 : Shape := ⟨1, ![1024]⟩
abbrev S1024x1 : Shape := ⟨2, ![1024, 1]⟩

abbrev nBuf : Space → Nat
  | .hbm => 19
  | .vmem => 7
  | .smem => 0
  | _ => 0

abbrev bufTy : (tb : Table) → Fin (tcTables nBuf tb) → BufTy
  | .hbm, ⟨0, _⟩ => ⟨S1x1024x1024, .f32⟩
  | .hbm, ⟨1, _⟩ => ⟨S1024x1024, .f32⟩
  | .hbm, ⟨2, _⟩ => ⟨S1x1024x8x128, .f32⟩
  | .hbm, ⟨3, _⟩ => ⟨S1x1024x8x128, .f32⟩
  | .hbm, ⟨4, _⟩ => ⟨S1024x1024, .f32⟩
  | .hbm, ⟨5, _⟩ => ⟨S1024x1024, .f32⟩
  | .hbm, ⟨6, _⟩ => ⟨S1024x1024, .bf16⟩
  | .hbm, ⟨7, _⟩ => ⟨S1024x1024, .bf16⟩
  | .hbm, ⟨8, _⟩ => ⟨S1024x1024, .bf16⟩
  | .hbm, ⟨9, _⟩ => ⟨S1024x8x128, .f32⟩
  | .hbm, ⟨10, _⟩ => ⟨S1024x8x128, .bf16⟩
  | .hbm, ⟨11, _⟩ => ⟨S8x1024x128, .bf16⟩
  | .hbm, ⟨12, _⟩ => ⟨S1024x8x128, .f32⟩
  | .hbm, ⟨13, _⟩ => ⟨S1024x8x128, .bf16⟩
  | .hbm, ⟨14, _⟩ => ⟨S8x1024x128, .bf16⟩
  | .hbm, ⟨15, _⟩ => ⟨S8x1x1024x128, .bf16⟩
  | .hbm, ⟨16, _⟩ => ⟨S8x1x1024x128, .bf16⟩
  | .hbm, ⟨17, _⟩ => ⟨S8x2x1024x128, .bf16⟩
  | .hbm, ⟨18, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S8x2x1024x128, .bf16⟩
  | .local _ .vmem, ⟨3, _⟩ => ⟨S1024x1024, .bf16⟩
  | .local _ .vmem, ⟨4, _⟩ => ⟨S1024x1024, .f32⟩
  | .local _ .vmem, ⟨5, _⟩ => ⟨S8x2x1024x128, .bf16⟩
  | .local _ .vmem, ⟨6, _⟩ => ⟨S1024x1024, .bf16⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  (ofTc nBuf bufTy 1 29 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 4
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 1 := Scalar.cmpi .eq v2 c1_i32_0
  let c3_i32 : BitVec 32 := 3#32
  let v5 : BitVec 1 := Scalar.cmpi .eq v2 c3_i32
  let v6 : BitVec 1 := Scalar.ori v4 v5
  let v7 : BitVec 32 := Scalar.extui v6
  let c0_i32 : BitVec 32 := 0#32
  let v8 : BitVec 1 := Scalar.cmpi .ne v7 c0_i32
  v8

def k0_dev1 : Nat :=
  let c0_i32_461 : BitVec 32 := 0#32
  let c0_i32_459 : BitVec 32 := 0#32
  let c1_i32_460 : BitVec 32 := 1#32
  let v337 : BitVec 32 := Scalar.muli c0_i32_459 c1_i32_460
  let v338 : BitVec 32 := Scalar.addi c0_i32_461 v337
  v338.toNat
def k0_cond2 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v9 : BitVec 1 := Scalar.cmpi .eq v2 c2_i32
  let v10 : BitVec 32 := Scalar.extui v9
  let c0_i32_1 : BitVec 32 := 0#32
  let v11 : BitVec 1 := Scalar.cmpi .ne v10 c0_i32_1
  v11

def k0_dev2 : Nat :=
  let c0_i32_461 : BitVec 32 := 0#32
  let c1_i32_459 : BitVec 32 := 1#32
  let c1_i32_460 : BitVec 32 := 1#32
  let v337 : BitVec 32 := Scalar.muli c1_i32_459 c1_i32_460
  let v338 : BitVec 32 := Scalar.addi c0_i32_461 v337
  v338.toNat
def k0_cond5 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_6 : BitVec 32 := 0#32
  let v18 : BitVec 1 := Scalar.cmpi .eq v2 c0_i32_6
  let v19 : BitVec 32 := Scalar.extui v18
  let c0_i32_84 : BitVec 32 := 0#32
  let v20 : BitVec 1 := Scalar.cmpi .ne v19 c0_i32_84
  v20

def k0_dev3 : Nat :=
  let c0_i32_468 : BitVec 32 := 0#32
  let c1_i32_466 : BitVec 32 := 1#32
  let c1_i32_467 : BitVec 32 := 1#32
  let v342 : BitVec 32 := Scalar.muli c1_i32_466 c1_i32_467
  let v343 : BitVec 32 := Scalar.addi c0_i32_468 v342
  v343.toNat
def k0_dev4 : Nat :=
  let c0_i32_477 : BitVec 32 := 0#32
  let c3_i32_475 : BitVec 32 := 3#32
  let c1_i32_476 : BitVec 32 := 1#32
  let v352 : BitVec 32 := Scalar.muli c3_i32_475 c1_i32_476
  let v353 : BitVec 32 := Scalar.addi c0_i32_477 v352
  v353.toNat
def k0_dev5 : Nat :=
  let c0_i32_486 : BitVec 32 := 0#32
  let c1_i32_484 : BitVec 32 := 1#32
  let c1_i32_485 : BitVec 32 := 1#32
  let v362 : BitVec 32 := Scalar.muli c1_i32_484 c1_i32_485
  let v363 : BitVec 32 := Scalar.addi c0_i32_486 v362
  v363.toNat
def k0_dev6 : Nat :=
  let c0_i32_495 : BitVec 32 := 0#32
  let c3_i32_493 : BitVec 32 := 3#32
  let c1_i32_494 : BitVec 32 := 1#32
  let v372 : BitVec 32 := Scalar.muli c3_i32_493 c1_i32_494
  let v373 : BitVec 32 := Scalar.addi c0_i32_495 v372
  v373.toNat
def k0_dev7 : Nat :=
  let c0_i32_504 : BitVec 32 := 0#32
  let c1_i32_502 : BitVec 32 := 1#32
  let c1_i32_503 : BitVec 32 := 1#32
  let v382 : BitVec 32 := Scalar.muli c1_i32_502 c1_i32_503
  let v383 : BitVec 32 := Scalar.addi c0_i32_504 v382
  v383.toNat
def k0_dev8 : Nat :=
  let c0_i32_513 : BitVec 32 := 0#32
  let c3_i32_511 : BitVec 32 := 3#32
  let c1_i32_512 : BitVec 32 := 1#32
  let v392 : BitVec 32 := Scalar.muli c3_i32_511 c1_i32_512
  let v393 : BitVec 32 := Scalar.addi c0_i32_513 v392
  v393.toNat
def k0_dev9 : Nat :=
  let c0_i32_522 : BitVec 32 := 0#32
  let c1_i32_520 : BitVec 32 := 1#32
  let c1_i32_521 : BitVec 32 := 1#32
  let v402 : BitVec 32 := Scalar.muli c1_i32_520 c1_i32_521
  let v403 : BitVec 32 := Scalar.addi c0_i32_522 v402
  v403.toNat
def k0_dev10 : Nat :=
  let c0_i32_531 : BitVec 32 := 0#32
  let c3_i32_529 : BitVec 32 := 3#32
  let c1_i32_530 : BitVec 32 := 1#32
  let v412 : BitVec 32 := Scalar.muli c3_i32_529 c1_i32_530
  let v413 : BitVec 32 := Scalar.addi c0_i32_531 v412
  v413.toNat
def k0_dev11 : Nat :=
  let c0_i32_540 : BitVec 32 := 0#32
  let c1_i32_538 : BitVec 32 := 1#32
  let c1_i32_539 : BitVec 32 := 1#32
  let v422 : BitVec 32 := Scalar.muli c1_i32_538 c1_i32_539
  let v423 : BitVec 32 := Scalar.addi c0_i32_540 v422
  v423.toNat
def k0_dev12 : Nat :=
  let c0_i32_549 : BitVec 32 := 0#32
  let c3_i32_547 : BitVec 32 := 3#32
  let c1_i32_548 : BitVec 32 := 1#32
  let v432 : BitVec 32 := Scalar.muli c3_i32_547 c1_i32_548
  let v433 : BitVec 32 := Scalar.addi c0_i32_549 v432
  v433.toNat
def k0_dev13 : Nat :=
  let c0_i32_558 : BitVec 32 := 0#32
  let c1_i32_556 : BitVec 32 := 1#32
  let c1_i32_557 : BitVec 32 := 1#32
  let v442 : BitVec 32 := Scalar.muli c1_i32_556 c1_i32_557
  let v443 : BitVec 32 := Scalar.addi c0_i32_558 v442
  v443.toNat
def k0_dev14 : Nat :=
  let c0_i32_567 : BitVec 32 := 0#32
  let c3_i32_565 : BitVec 32 := 3#32
  let c1_i32_566 : BitVec 32 := 1#32
  let v452 : BitVec 32 := Scalar.muli c3_i32_565 c1_i32_566
  let v453 : BitVec 32 := Scalar.addi c0_i32_567 v452
  v453.toNat
def k0_dev15 : Nat :=
  let c0_i32_576 : BitVec 32 := 0#32
  let c1_i32_574 : BitVec 32 := 1#32
  let c1_i32_575 : BitVec 32 := 1#32
  let v462 : BitVec 32 := Scalar.muli c1_i32_574 c1_i32_575
  let v463 : BitVec 32 := Scalar.addi c0_i32_576 v462
  v463.toNat
def k0_dev16 : Nat :=
  let c0_i32_585 : BitVec 32 := 0#32
  let c3_i32_583 : BitVec 32 := 3#32
  let c1_i32_584 : BitVec 32 := 1#32
  let v472 : BitVec 32 := Scalar.muli c3_i32_583 c1_i32_584
  let v473 : BitVec 32 := Scalar.addi c0_i32_585 v472
  v473.toNat
def k0_dev17 : Nat :=
  let c0_i32_594 : BitVec 32 := 0#32
  let c1_i32_592 : BitVec 32 := 1#32
  let c1_i32_593 : BitVec 32 := 1#32
  let v482 : BitVec 32 := Scalar.muli c1_i32_592 c1_i32_593
  let v483 : BitVec 32 := Scalar.addi c0_i32_594 v482
  v483.toNat
def k0_dev18 : Nat :=
  let c0_i32_603 : BitVec 32 := 0#32
  let c3_i32_601 : BitVec 32 := 3#32
  let c1_i32_602 : BitVec 32 := 1#32
  let v492 : BitVec 32 := Scalar.muli c3_i32_601 c1_i32_602
  let v493 : BitVec 32 := Scalar.addi c0_i32_603 v492
  v493.toNat
def k0_cond7 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_108 : BitVec 32 := 1#32
  let v81 : BitVec 1 := Scalar.cmpi .eq v2 c1_i32_108
  let v82 : BitVec 32 := Scalar.extui v81
  let c0_i32_114 : BitVec 32 := 0#32
  let v83 : BitVec 1 := Scalar.cmpi .ne v82 c0_i32_114
  v83

def k0_dev19 : Nat :=
  let c0_i32_460 : BitVec 32 := 0#32
  let c2_i32_458 : BitVec 32 := 2#32
  let c1_i32_459 : BitVec 32 := 1#32
  let v337 : BitVec 32 := Scalar.muli c2_i32_458 c1_i32_459
  let v338 : BitVec 32 := Scalar.addi c0_i32_460 v337
  v338.toNat
def k0_cond9 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_137 : BitVec 32 := 1#32
  let v112 : BitVec 1 := Scalar.cmpi .eq v2 c1_i32_137
  let v113 : BitVec 32 := Scalar.extui v112
  let c0_i32_143 : BitVec 32 := 0#32
  let v114 : BitVec 1 := Scalar.cmpi .ne v113 c0_i32_143
  v114

def k0_dev20 : Nat :=
  let c0_i32_460 : BitVec 32 := 0#32
  let c2_i32_458 : BitVec 32 := 2#32
  let c1_i32_459 : BitVec 32 := 1#32
  let v337 : BitVec 32 := Scalar.muli c2_i32_458 c1_i32_459
  let v338 : BitVec 32 := Scalar.addi c0_i32_460 v337
  v338.toNat
def k0_cond11 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_166 : BitVec 32 := 1#32
  let v143 : BitVec 1 := Scalar.cmpi .eq v2 c1_i32_166
  let v144 : BitVec 32 := Scalar.extui v143
  let c0_i32_172 : BitVec 32 := 0#32
  let v145 : BitVec 1 := Scalar.cmpi .ne v144 c0_i32_172
  v145

def k0_dev21 : Nat :=
  let c0_i32_460 : BitVec 32 := 0#32
  let c2_i32_458 : BitVec 32 := 2#32
  let c1_i32_459 : BitVec 32 := 1#32
  let v337 : BitVec 32 := Scalar.muli c2_i32_458 c1_i32_459
  let v338 : BitVec 32 := Scalar.addi c0_i32_460 v337
  v338.toNat
def k0_cond13 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_194 : BitVec 32 := 1#32
  let v174 : BitVec 1 := Scalar.cmpi .eq v2 c1_i32_194
  let v175 : BitVec 32 := Scalar.extui v174
  let c0_i32_200 : BitVec 32 := 0#32
  let v176 : BitVec 1 := Scalar.cmpi .ne v175 c0_i32_200
  v176

def k0_dev22 : Nat :=
  let c0_i32_460 : BitVec 32 := 0#32
  let c2_i32_458 : BitVec 32 := 2#32
  let c1_i32_459 : BitVec 32 := 1#32
  let v337 : BitVec 32 := Scalar.muli c2_i32_458 c1_i32_459
  let v338 : BitVec 32 := Scalar.addi c0_i32_460 v337
  v338.toNat
def k0_cond15 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_222 : BitVec 32 := 1#32
  let v205 : BitVec 1 := Scalar.cmpi .eq v2 c1_i32_222
  let v206 : BitVec 32 := Scalar.extui v205
  let c0_i32_228 : BitVec 32 := 0#32
  let v207 : BitVec 1 := Scalar.cmpi .ne v206 c0_i32_228
  v207

def k0_dev23 : Nat :=
  let c0_i32_460 : BitVec 32 := 0#32
  let c2_i32_458 : BitVec 32 := 2#32
  let c1_i32_459 : BitVec 32 := 1#32
  let v337 : BitVec 32 := Scalar.muli c2_i32_458 c1_i32_459
  let v338 : BitVec 32 := Scalar.addi c0_i32_460 v337
  v338.toNat
def k0_cond17 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_250 : BitVec 32 := 1#32
  let v236 : BitVec 1 := Scalar.cmpi .eq v2 c1_i32_250
  let v237 : BitVec 32 := Scalar.extui v236
  let c0_i32_256 : BitVec 32 := 0#32
  let v238 : BitVec 1 := Scalar.cmpi .ne v237 c0_i32_256
  v238

def k0_dev24 : Nat :=
  let c0_i32_460 : BitVec 32 := 0#32
  let c2_i32_458 : BitVec 32 := 2#32
  let c1_i32_459 : BitVec 32 := 1#32
  let v337 : BitVec 32 := Scalar.muli c2_i32_458 c1_i32_459
  let v338 : BitVec 32 := Scalar.addi c0_i32_460 v337
  v338.toNat
def k0_cond19 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_278 : BitVec 32 := 1#32
  let v267 : BitVec 1 := Scalar.cmpi .eq v2 c1_i32_278
  let v268 : BitVec 32 := Scalar.extui v267
  let c0_i32_284 : BitVec 32 := 0#32
  let v269 : BitVec 1 := Scalar.cmpi .ne v268 c0_i32_284
  v269

def k0_dev25 : Nat :=
  let c0_i32_460 : BitVec 32 := 0#32
  let c2_i32_458 : BitVec 32 := 2#32
  let c1_i32_459 : BitVec 32 := 1#32
  let v337 : BitVec 32 := Scalar.muli c2_i32_458 c1_i32_459
  let v338 : BitVec 32 := Scalar.addi c0_i32_460 v337
  v338.toNat
def k0_cond21 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_306 : BitVec 32 := 1#32
  let v298 : BitVec 1 := Scalar.cmpi .eq v2 c1_i32_306
  let v299 : BitVec 32 := Scalar.extui v298
  let c0_i32_312 : BitVec 32 := 0#32
  let v300 : BitVec 1 := Scalar.cmpi .ne v299 c0_i32_312
  v300

def k0_dev26 : Nat :=
  let c0_i32_460 : BitVec 32 := 0#32
  let c2_i32_458 : BitVec 32 := 2#32
  let c1_i32_459 : BitVec 32 := 1#32
  let v337 : BitVec 32 := Scalar.muli c2_i32_458 c1_i32_459
  let v338 : BitVec 32 := Scalar.addi c0_i32_460 v337
  v338.toNat
abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x2x1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S1x1024x1024 : Shape := ⟨3, ![1, 1024, 1024]⟩
abbrev S1024x1024 : Shape := ⟨2, ![1024, 1024]⟩
abbrev S1x4096x8x128 : Shape := ⟨4, ![1, 4096, 8, 128]⟩
abbrev S1x1024x8x128 : Shape := ⟨4, ![1, 1024, 8, 128]⟩
abbrev S1024 : Shape := ⟨1, ![1024]⟩
abbrev S_ : Shape := ⟨0, ![]⟩
abbrev S1024x1 : Shape := ⟨2, ![1024, 1]⟩
abbrev S4096 : Shape := ⟨1, ![4096]⟩
abbrev S1x4096 : Shape := ⟨2, ![1, 4096]⟩
abbrev S1024x4096 : Shape := ⟨2, ![1024, 4096]⟩
abbrev S1x8x1024x4096 : Shape := ⟨4, ![1, 8, 1024, 4096]⟩
abbrev S1x1x1024x4096 : Shape := ⟨4, ![1, 1, 1024, 4096]⟩
abbrev S1x8x1024 : Shape := ⟨3, ![1, 8, 1024]⟩
abbrev S1x8x1024x1 : Shape := ⟨4, ![1, 8, 1024, 1]⟩
abbrev S1x1x1024x1 : Shape := ⟨4, ![1, 1, 1024, 1]⟩
abbrev S1x8x128x1024 : Shape := ⟨4, ![1, 8, 128, 1024]⟩

abbrev nBuf : Space → Nat
  | .hbm => 90
  | .vmem => 0
  | .smem => 0
  | _ => 0

abbrev bufTy : (tb : Table) → Fin (tcTables nBuf tb) → BufTy
  | .hbm, ⟨0, _⟩ => ⟨S1x1024x1024, .f32⟩
  | .hbm, ⟨1, _⟩ => ⟨S1024x1024, .f32⟩
  | .hbm, ⟨2, _⟩ => ⟨S1x4096x8x128, .f32⟩
  | .hbm, ⟨3, _⟩ => ⟨S1x4096x8x128, .f32⟩
  | .hbm, ⟨4, _⟩ => ⟨S1024x1024, .f32⟩
  | .hbm, ⟨5, _⟩ => ⟨S1x1024x1024, .f32⟩
  | .hbm, ⟨6, _⟩ => ⟨S1x1024x8x128, .f32⟩
  | .hbm, ⟨7, _⟩ => ⟨S1024, .i32⟩
  | .hbm, ⟨8, _⟩ => ⟨S_, .i32⟩
  | .hbm, ⟨9, _⟩ => ⟨S_, .i32⟩
  | .hbm, ⟨10, _⟩ => ⟨S1024, .i32⟩
  | .hbm, ⟨11, _⟩ => ⟨S1024, .i32⟩
  | .hbm, ⟨12, _⟩ => ⟨S1024, .i32⟩
  | .hbm, ⟨13, _⟩ => ⟨S_, .i32⟩
  | .hbm, ⟨14, _⟩ => ⟨S1024, .i32⟩
  | .hbm, ⟨15, _⟩ => ⟨S1024, .i1⟩
  | .hbm, ⟨16, _⟩ => ⟨S1024, .i32⟩
  | .hbm, ⟨17, _⟩ => ⟨S1024, .i32⟩
  | .hbm, ⟨18, _⟩ => ⟨S_, .i32⟩
  | .hbm, ⟨19, _⟩ => ⟨S1024, .i32⟩
  | .hbm, ⟨20, _⟩ => ⟨S1024, .i1⟩
  | .hbm, ⟨21, _⟩ => ⟨S1024, .i1⟩
  | .hbm, ⟨22, _⟩ => ⟨S_, .i32⟩
  | .hbm, ⟨23, _⟩ => ⟨S1024, .i32⟩
  | .hbm, ⟨24, _⟩ => ⟨S1024, .i32⟩
  | .hbm, ⟨25, _⟩ => ⟨S1024, .i32⟩
  | .hbm, ⟨26, _⟩ => ⟨S1024x1, .i32⟩
  | .hbm, ⟨27, _⟩ => ⟨S4096, .i32⟩
  | .hbm, ⟨28, _⟩ => ⟨S_, .i32⟩
  | .hbm, ⟨29, _⟩ => ⟨S_, .i32⟩
  | .hbm, ⟨30, _⟩ => ⟨S4096, .i32⟩
  | .hbm, ⟨31, _⟩ => ⟨S4096, .i32⟩
  | .hbm, ⟨32, _⟩ => ⟨S4096, .i32⟩
  | .hbm, ⟨33, _⟩ => ⟨S_, .i32⟩
  | .hbm, ⟨34, _⟩ => ⟨S4096, .i32⟩
  | .hbm, ⟨35, _⟩ => ⟨S4096, .i1⟩
  | .hbm, ⟨36, _⟩ => ⟨S4096, .i32⟩
  | .hbm, ⟨37, _⟩ => ⟨S4096, .i32⟩
  | .hbm, ⟨38, _⟩ => ⟨S_, .i32⟩
  | .hbm, ⟨39, _⟩ => ⟨S4096, .i32⟩
  | .hbm, ⟨40, _⟩ => ⟨S4096, .i1⟩
  | .hbm, ⟨41, _⟩ => ⟨S4096, .i1⟩
  | .hbm, ⟨42, _⟩ => ⟨S_, .i32⟩
  | .hbm, ⟨43, _⟩ => ⟨S4096, .i32⟩
  | .hbm, ⟨44, _⟩ => ⟨S4096, .i32⟩
  | .hbm, ⟨45, _⟩ => ⟨S4096, .i32⟩
  | .hbm, ⟨46, _⟩ => ⟨S1x4096, .i32⟩
  | .hbm, ⟨47, _⟩ => ⟨S1024x4096, .i32⟩
  | .hbm, ⟨48, _⟩ => ⟨S1024x4096, .i32⟩
  | .hbm, ⟨49, _⟩ => ⟨S1024x4096, .i1⟩
  | .hbm, ⟨50, _⟩ => ⟨S1x8x1024x4096, .f32⟩
  | .hbm, ⟨51, _⟩ => ⟨S_, .f32⟩
  | .hbm, ⟨52, _⟩ => ⟨S1x8x1024x4096, .f32⟩
  | .hbm, ⟨53, _⟩ => ⟨S1x8x1024x4096, .f32⟩
  | .hbm, ⟨54, _⟩ => ⟨S1x1x1024x4096, .i1⟩
  | .hbm, ⟨55, _⟩ => ⟨S_, .f32⟩
  | .hbm, ⟨56, _⟩ => ⟨S_, .f32⟩
  | .hbm, ⟨57, _⟩ => ⟨S1x8x1024x4096, .i1⟩
  | .hbm, ⟨58, _⟩ => ⟨S1x8x1024x4096, .f32⟩
  | .hbm, ⟨59, _⟩ => ⟨S1x8x1024x4096, .f32⟩
  | .hbm, ⟨60, _⟩ => ⟨S_, .f32⟩
  | .hbm, ⟨61, _⟩ => ⟨S1x8x1024, .f32⟩
  | .hbm, ⟨62, _⟩ => ⟨S1x8x1024x1, .f32⟩
  | .hbm, ⟨63, _⟩ => ⟨S1x8x1024x4096, .f32⟩
  | .hbm, ⟨64, _⟩ => ⟨S1x8x1024x4096, .f32⟩
  | .hbm, ⟨65, _⟩ => ⟨S1x8x1024x4096, .f32⟩
  | .hbm, ⟨66, _⟩ => ⟨S_, .i1⟩
  | .hbm, ⟨67, _⟩ => ⟨S1024, .i1⟩
  | .hbm, ⟨68, _⟩ => ⟨S1x1x1024x1, .i1⟩
  | .hbm, ⟨69, _⟩ => ⟨S_, .f32⟩
  | .hbm, ⟨70, _⟩ => ⟨S1x8x1024, .f32⟩
  | .hbm, ⟨71, _⟩ => ⟨S1x8x1024x1, .f32⟩
  | .hbm, ⟨72, _⟩ => ⟨S_, .f32⟩
  | .hbm, ⟨73, _⟩ => ⟨S_, .f32⟩
  | .hbm, ⟨74, _⟩ => ⟨S1x8x1024x1, .i1⟩
  | .hbm, ⟨75, _⟩ => ⟨S1x8x1024x1, .f32⟩
  | .hbm, ⟨76, _⟩ => ⟨S1x8x1024x1, .f32⟩
  | .hbm, ⟨77, _⟩ => ⟨S1x8x1024x4096, .f32⟩
  | .hbm, ⟨78, _⟩ => ⟨S1x8x1024x4096, .f32⟩
  | .hbm, ⟨79, _⟩ => ⟨S1x1x1024x1, .i1⟩
  | .hbm, ⟨80, _⟩ => ⟨S_, .f32⟩
  | .hbm, ⟨81, _⟩ => ⟨S_, .f32⟩
  | .hbm, ⟨82, _⟩ => ⟨S1x8x1024x4096, .i1⟩
  | .hbm, ⟨83, _⟩ => ⟨S1x8x1024x4096, .f32⟩
  | .hbm, ⟨84, _⟩ => ⟨S1x8x1024x4096, .f32⟩
  | .hbm, ⟨85, _⟩ => ⟨S1x8x128x1024, .f32⟩
  | .hbm, ⟨86, _⟩ => ⟨S1x1024x8x128, .f32⟩
  | .hbm, ⟨87, _⟩ => ⟨S1x1024x1024, .f32⟩
  | .hbm, ⟨88, _⟩ => ⟨S1x1024x1024, .f32⟩
  | .hbm, ⟨89, _⟩ => ⟨S1024x1024, .f32⟩
  | _, _ => ⟨S1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_cst : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_cst_1 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_v15 : Ref sig .tc := ⟨.hbm, 59, rfl⟩
abbrev main_cst_2 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_c_3 : Ref sig .tc := ⟨.hbm, 66, rfl⟩
abbrev main_v21 : Ref sig .tc := ⟨.hbm, 67, rfl⟩
abbrev main_v22 : Ref sig .tc := ⟨.hbm, 68, rfl⟩
abbrev main_cst_4 : Ref sig .tc := ⟨.hbm, 69, rfl⟩
abbrev main_v23 : Ref sig .tc := ⟨.hbm, 70, rfl⟩
abbrev main_v24 : Ref sig .tc := ⟨.hbm, 71, rfl⟩
abbrev main_cst_5 : Ref sig .tc := ⟨.hbm, 72, rfl⟩
abbrev main_call3_v0 : Ref sig .tc := ⟨.hbm, 73, rfl⟩
abbrev main_call3_v1 : Ref sig .tc := ⟨.hbm, 74, rfl⟩
abbrev main_call3_v2 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_cst_6 : Ref sig .tc := ⟨.hbm, 80, rfl⟩
abbrev main_call4_v0 : Ref sig .tc := ⟨.hbm, 81, rfl⟩
abbrev main_call4_v1 : Ref sig .tc := ⟨.hbm, 82, rfl⟩
abbrev main_call4_v2 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩
abbrev main_v34 : Ref sig .tc := ⟨.hbm, 89, rfl⟩

abbrev nD : Nat := 1
abbrev τ : Topo := Topo.v7x

variable {F : FTy → Type} [FloatOps F]
-- ==== Proof.Proto.lean ====
/-
The communication protocol of the kernel: for each semaphore who waits on it, who credits it, by how much, and
what each credit hands over.

Device 0 holds the key and value block every device needs.  It copies each head's slot to devices 1 and 3, and device 1
passes each slot on to device 2.  Before the first copy the receivers say on the barrier semaphore that they are inside
the kernel: devices 1 and 3 to device 0, device 2 to device 1.

* the barrier cell of device 0 has the duties of devices 1 and 3, that of device 1 the duty of device 2; each is one
  unit and hands over the payer's eight landing slots and the mark that its receive cells are open;
* the receive cell of head `h` on devices 1 and 3 is credited by device 0's copy, on device 2 by device 1's: the copy
  hands over the slot, holding device 0's keys and values;
* a send cell is credited by the copy's own departure, which gives the lent share of the source slot back.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- The protocol's ghost state: duties are named by the device that pays them. -/
abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Cells and slots -/

abbrev barS : Sem sig := (SemArray.scalar (sig.barrier 0 rfl) : Sems sig S_).sem

/-- The transfer semaphores by row and head: rows 0 and 1 for departures, row 2 for arrivals. -/
def xS (t : Fin 3) (h : Fin 8) : DmaSem sig := ⟨5 + 8 * t.val + h.val, by have := t.isLt; have := h.isLt; show _ < 29; omega⟩

abbrev barCell (c : Dev nD) : GSem nD τ sig := ((c : Thread nD τ), .reg barS)
abbrev xcell (c : Dev nD) (t : Fin 3) (h : Fin 8) : GSem nD τ sig := ((c : Thread nD τ), .dma (xS t h))

abbrev commM : Memref sig .tc .vmem S8x2x1024x128 .bf16 := Memref.whole cc0_scratch0

theorem slot_inb (h : Fin 8) : ∀ a, (![h.val, 0, 0, 0] : Fin 4 → Nat) a + S1x2x1024x128.size a ≤ S8x2x1024x128.size a := by
  revert h; decide

/-- Head `h`'s slot of the landing buffer: its keys and its values. -/
def slotM (h : Fin 8) : Memref sig .tc .vmem S2x1024x128 .bf16 :=
  (commM.slice (Rect.unit (s := S8x2x1024x128) ![h.val, 0, 0, 0] S1x2x1024x128.size (slot_inb h)) (fun _ => rfl)).squeeze S2x1024x128
    Facts₀.squeezes_S1x2x1024x128_S2x1024x128

abbrev N : ℕ := (slotM 0).view.dmaCredit
theorem N_pos : 0 < N := View.dmaCredit_pos _ (by decide)

variable (KV : (cc0_scratch0 : Ref sig .tc).ty.Contents (Elt F))

/-- The landing buffer's contents, read as contents of the buffer slot `h` lies in. -/
def asSlot (c : Dev nD) (h : Fin 8) (f : (cc0_scratch0 : Ref sig .tc).ty.Contents (Elt F)) : Buf (Elt F) ((slotM h).view.loc (c : Thread nD τ)) := f

/-- A share of slot `h` on device `c`, at contents `f` of the landing buffer. -/
def slotPts (c : Dev nD) (h : Fin 8) (q : PosShare TreeShare) (f : (cc0_scratch0 : Ref sig .tc).ty.Contents (Elt F)) : sProp 𝕄 :=
  (slotM h).view.loc (c : Thread nD τ) ↦[(slotM h).view.set]{q} asSlot c h f

instance slotPts_storable (c : Dev nD) (h : Fin 8) (q f) : BI.Storable (upEmb : UEmb _ 𝕄) (slotPts (F := F) c h q f) := by
  unfold slotPts; exact BI.Region.storable_held _ _ _ _

/-! ## The schedule -/

def barD (c : Dev nD) : Finset (Fin 4) := if c = 0 then {1, 3} else if c = 1 then {2} else ∅
def xD (c : Dev nD) (t : ℕ) : Finset (Fin 4) :=
  if t = 2 then (if c = 0 then ∅ else if c = 2 then {1} else {0})
  else if c = 0 then {0} else if c = 1 ∧ t = 0 then {1} else ∅

/-- What device `d` hands over with its barrier unit. -/
def barPay (d : Dev nD) : sProp 𝕄 :=
  bigSep Finset.univ fun h : Fin 8 => iprop((∃ f, slotPts (F := F) d h fullShare f) ∗ reached ER (xcell d 2 h) 0)

/-- The share of a slot that the copy departing on row `t` borrows. -/
def qS (c : Dev nD) (t : ℕ) : PosShare TreeShare := if c = 0 then (if t = 0 then fullShare.right.left else fullShare.right.right) else fullShare.right

def xPay (c : Dev nD) (t : ℕ) (h : Fin 8) : sProp 𝕄 :=
  if t = 2 then slotPts c h fullShare KV else slotPts c h (qS c t) KV

def Rd : Rounds.Schedule (GSem nD τ sig) (Fin 4) 𝕄 where
  duties g r := if r = 0 ∧ g.1.2 = .tc then (match g.2 with
    | .reg _ => barD g.1.1
    | .dma q => if 5 ≤ q.val then xD g.1.1 ((q.val - 5) / 8) else ∅) else ∅
  unitless _ := False
  amount g _ _ := match g.2 with
    | .reg _ => 1
    | .dma _ => N
  payload g _ d := match g.2 with
    | .reg _ => barPay d
    | .dma q => xPay KV g.1.1 ((q.val - 5) / 8) ⟨(q.val - 5) % 8, Nat.mod_lt _ (by decide)⟩
  amount_pos g _ _ _ := by
    rcases g with ⟨_, _ | _⟩
    · exact Nat.one_pos
    · exact N_pos

instance Rd_storable (g : GSem nD τ sig) (r : ℕ) (d : Fin 4) : BI.Storable (upEmb : UEmb _ 𝕄) ((Rd (F := F) KV).payload g r d) := by
  rcases g with ⟨th, s | q⟩
  · show BI.Storable upEmb (barPay d); unfold barPay; infer_instance
  · show BI.Storable upEmb (xPay KV _ _ _); unfold xPay; split <;> infer_instance

omit [FloatOps F] [Named F] in
theorem duties_bar (c : Dev nD) : (Rd (F := F) KV).duties (barCell c) 0 = barD c := by
  dsimp only [Rd]; exact if_pos ⟨rfl, rfl⟩

theorem xS_div (t : Fin 3) (h : Fin 8) : ((xS t h).val - 5) / 8 = t.val := by
  have := h.isLt; show (5 + 8 * t.val + h.val - 5) / 8 = _; omega
theorem xS_mod (t : Fin 3) (h : Fin 8) : ((xS t h).val - 5) % 8 = h.val := by
  have := h.isLt; show (5 + 8 * t.val + h.val - 5) % 8 = _; omega

omit [FloatOps F] [Named F] in
theorem duties_x (c : Dev nD) (t : Fin 3) (h : Fin 8) : (Rd (F := F) KV).duties (xcell c t h) 0 = xD c t.val := by
  dsimp only [Rd]
  rw [if_pos ⟨rfl, rfl⟩, if_pos (show 5 ≤ (xS t h).val from (by omega : 5 ≤ 5 + 8 * t.val + h.val)), xS_div]

omit [FloatOps F] [Named F] in
theorem duties_later (g : GSem nD τ sig) : ∀ r, 1 ≤ r → (Rd (F := F) KV).duties g r = ∅ := fun r hr => if_neg fun h => by omega

omit [FloatOps F] [Named F] in
theorem duties_empty {g : GSem nD τ sig} (h : (Rd (F := F) KV).duties g 0 = ∅) (r : ℕ) : (Rd (F := F) KV).duties g r = ∅ := by
  rcases r with _ | r
  · exact h
  · exact duties_later KV g _ (by omega)

omit [FloatOps F] [Named F] in
theorem amount_bar (c : Dev nD) (d : Fin 4) : (Rd (F := F) KV).amount (barCell c) 0 d = 1 := rfl
omit [FloatOps F] [Named F] in
theorem amount_x (c : Dev nD) (t : Fin 3) (h : Fin 8) (d : Fin 4) : (Rd (F := F) KV).amount (xcell c t h) 0 d = N := rfl

omit [FloatOps F] [Named F] in
theorem payload_bar (c : Dev nD) (d : Fin 4) : (Rd (F := F) KV).payload (barCell c) 0 d = barPay d := rfl
omit [FloatOps F] [Named F] in
theorem payload_x (c : Dev nD) (t : Fin 3) (h : Fin 8) (d : Fin 4) : (Rd (F := F) KV).payload (xcell c t h) 0 d = xPay KV c t.val h := by
  show xPay KV c (((xS t h).val - 5) / 8) ⟨((xS t h).val - 5) % 8, _⟩ = _
  rw [xS_div]; congr 1; exact Fin.ext (xS_mod t h)

omit [FloatOps F] [Named F] in
theorem expect_bar0 : (Rd (F := F) KV).expect (barCell 0) 0 = 2 := by
  unfold Schedule.expect Schedule.amountOf; rw [duties_bar]; rfl
omit [FloatOps F] [Named F] in
theorem expect_bar1 : (Rd (F := F) KV).expect (barCell 1) 0 = 1 := by
  unfold Schedule.expect Schedule.amountOf; rw [duties_bar]; rfl
omit [FloatOps F] [Named F] in
theorem expect_x (c : Dev nD) (t : Fin 3) (h : Fin 8) {d : Fin 4} (hd : xD c t.val = {d}) : (Rd (F := F) KV).expect (xcell c t h) 0 = N := by
  unfold Schedule.expect Schedule.amountOf; rw [duties_x, hd, Finset.sum_singleton, amount_x]

omit [FloatOps F] [Named F] in
theorem rest_bar0 : bigSep ((Rd (F := F) KV).duties (barCell 0) 0 \ ∅) (fun d => (Rd (F := F) KV).payload (barCell 0) 0 d) = iprop(barPay 1 ∗ barPay 3) := by
  rw [Finset.sdiff_empty, duties_bar, bigSep_eq_bigSepL_of_eq [(1 : Fin 4), 3] (by decide) (by decide), bigSepL_cons_cons, bigSepL_singleton]; rfl
omit [FloatOps F] [Named F] in
theorem rest_bar1 : bigSep ((Rd (F := F) KV).duties (barCell 1) 0 \ ∅) (fun d => (Rd (F := F) KV).payload (barCell 1) 0 d) = barPay 2 := by
  rw [Finset.sdiff_empty, duties_bar, bigSep_eq_bigSepL_of_eq [(2 : Fin 4)] (by decide) (by decide), bigSepL_singleton]; rfl
omit [FloatOps F] [Named F] in
theorem rest_x (c : Dev nD) (t : Fin 3) (h : Fin 8) {d : Fin 4} (hd : xD c t.val = {d}) :
    bigSep ((Rd (F := F) KV).duties (xcell c t h) 0 \ ∅) (fun d => (Rd (F := F) KV).payload (xcell c t h) 0 d) = xPay KV c t.val h := by
  rw [Finset.sdiff_empty, duties_x, hd, bigSep_singleton, payload_x]

/-! ## What each device owes at launch; the levels -/

/-- What is still to arrive on device `c` from head `n` on. -/
def rem (c : Dev nD) (n : ℕ) : CellTallies nD τ sig Unit :=
  ∑ h ∈ Finset.univ.filter (fun h : Fin 8 => n ≤ h.val), tallyAt (xcell c 2 h) () N

theorem rem_peel (c : Dev nD) (h : Fin 8) : rem c h.val = rem c (h.val + 1) + tallyAt (xcell c 2 h) () N := by
  unfold rem
  rw [show (Finset.univ.filter fun k : Fin 8 => h.val ≤ k.val) = insert h (Finset.univ.filter fun k : Fin 8 => h.val + 1 ≤ k.val) from by
    revert h; decide, Finset.sum_insert (by simp), add_comm]
theorem rem_last (c : Dev nD) : rem c 8 = 0 := by
  unfold rem; rw [show (Finset.univ.filter fun k : Fin 8 => 8 ≤ k.val) = ∅ from by decide, Finset.sum_empty]

def O₀ (c : Dev nD) : CellTallies nD τ sig Unit := match c with
  | 0 => rem 1 0 + rem 3 0
  | 1 => rem 2 0 + tallyAt (barCell 0) () 1
  | 2 => tallyAt (barCell 1) () 1
  | 3 => tallyAt (barCell 0) () 1

def L (g : GSem nD τ sig) : Finset Unit := if g.1.2 = .tc then {()} else ∅
/-- Barrier cells lowest, then the arrivals from device 0, then those from device 1; staging and departures at the bottom. -/
def lv (g : GSem nD τ sig) (_ : Unit) : ℕ := match g.2 with
  | .reg _ => 1
  | .dma q => if 21 ≤ q.val then (if g.1.1 = 2 then 3 else 2) else 0

theorem L_of_ne (g : GSem nD τ sig) (h : g.1.2 ≠ .tc) : L g = ∅ := if_neg h
theorem L_tc (c : Dev nD) (sm : SemLoc sig) : L ((c : Thread nD τ), sm) = {()} := if_pos rfl

theorem lv_recv (c : Dev nD) (h : Fin 8) : lv (xcell c 2 h) () = if c = 2 then 3 else 2 :=
  if_pos (show 21 ≤ 5 + 8 * 2 + h.val by omega)

theorem tallyAt_pos {g g' : GSem nD τ sig} {n : ℕ} {u : Unit} (h : 0 < (tallyAt g' () n : CellTallies nD τ sig Unit) g u) : g = g' := by
  rw [tallyAt_apply] at h
  by_contra hn; rw [if_neg fun h' => hn h'.1] at h; exact Nat.lt_irrefl 0 h

theorem add_pos_or {A B : CellTallies nD τ sig Unit} {g : GSem nD τ sig} {u : Unit} (h : 0 < (A + B) g u) : 0 < A g u ∨ 0 < B g u := by
  rw [Pi.add_apply, Finsupp.add_apply] at h; omega

theorem rem_pos {c : Dev nD} {n : ℕ} {g : GSem nD τ sig} {u : Unit} (h : 0 < rem c n g u) : ∃ k, g = xcell c 2 k := by
  by_contra hn
  refine absurd h (Nat.not_lt.mpr (Nat.le_of_eq ?_))
  unfold rem
  rw [Finset.sum_apply, Finsupp.finset_sum_apply]
  refine Finset.sum_eq_zero fun k _ => ?_
  by_contra h0
  exact hn ⟨k, tallyAt_pos (u := u) (Nat.pos_of_ne_zero h0)⟩

/-- Every cell in a tally is a device's own-kind cell above level `k`. -/
def Above (k : ℕ) (O : CellTallies nD τ sig Unit) : Prop := ∀ g u, 0 < O g u → g.1.2 = .tc ∧ k < lv g ()

theorem Above.add {k : ℕ} {A B : CellTallies nD τ sig Unit} (hA : Above k A) (hB : Above k B) : Above k (A + B) :=
  fun g u h => (add_pos_or h).elim (hA g u) (hB g u)
theorem above_zero (k : ℕ) : Above k 0 := fun g u h => absurd h (Nat.lt_irrefl 0)
theorem above_bar (c : Dev nD) (n : ℕ) : Above 0 (tallyAt (barCell c) () n) := fun g u h => by
  rw [tallyAt_pos h]; exact ⟨rfl, Nat.one_pos⟩
theorem above_rem (c : Dev nD) (n : ℕ) : Above 1 (rem c n) := fun g u h => by
  obtain ⟨k, rfl⟩ := rem_pos h
  refine ⟨rfl, ?_⟩; rw [lv_recv]; split <;> decide
theorem above_rem2 (n : ℕ) : Above 2 (rem 2 n) := fun g u h => by
  obtain ⟨k, rfl⟩ := rem_pos h
  refine ⟨rfl, ?_⟩; rw [lv_recv]; decide
theorem Above.mono {k k' : ℕ} (hk : k' ≤ k) {O : CellTallies nD τ sig Unit} (h : Above k O) : Above k' O :=
  fun g u hg => ⟨(h g u hg).1, Nat.lt_of_le_of_lt hk (h g u hg).2⟩

theorem above_O₀ (c : Dev nD) : Above 0 (O₀ c) := match c with
  | 0 => ((above_rem 1 0).add (above_rem 3 0)).mono (by decide)
  | 1 => ((above_rem 2 0).mono (by decide)).add (above_bar 0 1)
  | 2 => above_bar 1 1
  | 3 => above_bar 0 1

omit [FloatOps F] [Named F] in
theorem mayWait_of {c : Dev nD} {sm : SemLoc sig} {O : CellTallies nD τ sig Unit} {k : ℕ} (hk : lv ((c : Thread nD τ), sm) () ≤ k) (h : Above k O) :
    (levAts L lv : sProp 𝕄) ⊢ MayWait (c : Thread nD τ) sm () O :=
  MayOwe.of_cut (L := L) (lev := lv) k (fun p hp => by rw [Finset.mem_singleton.mp hp, L_tc]; exact Finset.mem_singleton_self _)
    (fun g u hg => by unfold L; rw [if_pos (h g u hg).1]; exact Finset.mem_singleton.mpr rfl)
    (fun p hp => by rw [Finset.mem_singleton.mp hp]; exact hk)
    (fun g u hg => (h g u hg).2)

end Cert.KernelIdeal.Pf

end
-- ==== Proof.Frags.lean ====
/-
The kernel's effects on one head's slot, as rules: waiting for a copy, sending a slot, loading its keys or values.
-/
module

public import proofs.«01_k».proof.Proof.Proto

@[expose] public section

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## Slots -/

theorem slot_set (h : Fin 8) : (slotM h).view.set = (Rect.unit (s := S8x2x1024x128) ![h.val, 0, 0, 0] S1x2x1024x128.size (slot_inb h)).set := by
  unfold slotM
  exact (View.set_reshape _ _).trans (View.set_slice_whole _ _)

theorem slot_mem {h : Fin 8} {i : S8x2x1024x128.Idx} : i ∈ (slotM h).view.set ↔ (i 0).val = h.val := by
  rw [slot_set]
  refine Rect.mem_set_unit.trans ⟨fun H => ?_, fun H a => ?_⟩
  · have := H 0
    simp only [Matrix.cons_val_zero] at this
    have h1 : S1x2x1024x128.size 0 = 1 := rfl
    omega
  · have hi := (i a).isLt
    fin_cases a
    · simp only [Fin.zero_eta, Matrix.cons_val_zero]
      have h1 : S1x2x1024x128.size 0 = 1 := rfl
      exact ⟨by rw [H], by rw [H]; exact Nat.lt_succ_self _⟩
    · exact ⟨Nat.zero_le _, lt_of_lt_of_eq hi (Nat.zero_add _).symm⟩
    · exact ⟨Nat.zero_le _, lt_of_lt_of_eq hi (Nat.zero_add _).symm⟩
    · exact ⟨Nat.zero_le _, lt_of_lt_of_eq hi (Nat.zero_add _).symm⟩

theorem slot_disjoint {h h' : Fin 8} (hn : h ≠ h') : Disjoint (slotM h).view.set (slotM h').view.set :=
  Finset.disjoint_left.mpr fun i hi hi' => hn (Fin.ext ((slot_mem (i := i)).mp hi ▸ (slot_mem (i := i)).mp hi'))

theorem slot_cover : (Finset.univ : Finset (Fin 8)).biUnion (fun h => (slotM h).view.set) = (Finset.univ : Finset S8x2x1024x128.Idx) := by
  ext i
  refine ⟨fun _ => Finset.mem_univ _, fun _ => Finset.mem_biUnion.mpr ⟨i 0, Finset.mem_univ _, slot_mem.mpr rfl⟩⟩

omit [FloatOps F] [Named F] in
/-- The landing buffer is its eight slots. -/
theorem slots_split (c : Dev nD) (q : PosShare TreeShare) (f : (cc0_scratch0 : Ref sig .tc).ty.Contents (Elt F)) :
    (((c : Thread nD τ).loc cc0_scratch0) ↦{q} f : sProp 𝕄) = bigSep Finset.univ fun h : Fin 8 => slotPts c h q f := by
  exact (congrArg (fun S => (((c : Thread nD τ).loc cc0_scratch0) ↦[S]{q} f : sProp 𝕄)) slot_cover.symm).trans
    (pointsTo_biUnion (ℓ := (c : Thread nD τ).loc cc0_scratch0) Finset.univ (fun h : Fin 8 => (slotM h).view.set) (fun h _ h' _ hn => slot_disjoint hn))

omit [FloatOps F] [Named F] in
theorem slot_landed (c c' : Dev nD) (h : Fin 8) (fd fs : (cc0_scratch0 : Ref sig .tc).ty.Contents (Elt F)) :
    ((slotM h).view.loc (c : Thread nD τ) ↦[(slotM h).view.set]{fullShare}
      ((slotM h).view.write (Elt F) (asSlot c h fd) ((slotM h).view.read (Elt F) (asSlot c' h fs)) Finset.univ) : sProp 𝕄)
      = slotPts c h fullShare fs :=
  pointsTo_congr fun i hi => (congrFun (View.write_read_eq_piecewise (v := (slotM h).view) (asSlot c h fd) (asSlot c' h fs) Finset.univ) i).trans (Finset.piecewise_eq_of_mem _ _ _ hi)

omit [FloatOps F] [Named F] in
theorem slot_share (c : Dev nD) (h : Fin 8) (q : PosShare TreeShare) (f : (cc0_scratch0 : Ref sig .tc).ty.Contents (Elt F)) :
    (slotPts c h q f : sProp 𝕄) ⊣⊢ iprop(slotPts c h q.left f ∗ slotPts c h q.right f) := by
  unfold slotPts; exact pointsTo_share (PosShare.mem_left_op_right q)

theorem slot_words (h : Fin 8) : (slotM h).view.WordExact := by
  have hw : (Rect.unit (s := S8x2x1024x128) ![h.val, 0, 0, 0] S1x2x1024x128.size (slot_inb h)).WholeWords (EltTy.packing .bf16) := by
    fin_cases h
    · exact Facts₀.wordsbf16_S8x2x1024x128_S1x2x1024x128_0_0_0_0
    · exact Facts₀.wordsbf16_S8x2x1024x128_S1x2x1024x128_1_0_0_0
    · exact Facts₀.wordsbf16_S8x2x1024x128_S1x2x1024x128_2_0_0_0
    · exact Facts₀.wordsbf16_S8x2x1024x128_S1x2x1024x128_3_0_0_0
    · exact Facts₀.wordsbf16_S8x2x1024x128_S1x2x1024x128_4_0_0_0
    · exact Facts₀.wordsbf16_S8x2x1024x128_S1x2x1024x128_5_0_0_0
    · exact Facts₀.wordsbf16_S8x2x1024x128_S1x2x1024x128_6_0_0_0
    · exact Facts₀.wordsbf16_S8x2x1024x128_S1x2x1024x128_7_0_0_0
  exact (((Memref.isWhole_whole cc0_scratch0).wordExact_slice rfl _ hw).reshape _ _)

/-! ## Rules -/

variable (KV : (cc0_scratch0 : Ref sig .tc).ty.Contents (Elt F)) (κ : GSem nD τ sig → ℕ)

/-- What a device owes, its recorded waits left out. -/
def OW (c : Dev nD) (O : CellTallies nD τ sig Unit) : sProp 𝕄 := iprop(∃ W, owes (c : Thread nD τ) O W)
def AP (c : Dev nD) (t : Fin 3) (h : Fin 8) (r : ℕ) : sProp 𝕄 := atPos ER (xcell c t h) r ∅ 0
abbrev inv (g : GSem nD τ sig) : sProp 𝕄 := cellInv ER (Rd (F := F) KV) (κ g) g

abbrev WP (c : Dev nD) {α : Type} (p : Prog (TpuEff nD τ sig (Elt F) Λ₀ .tc) α) (Q : α → sProp 𝕄) : sProp 𝕄 :=
  wp frame (wpE (defs₀ (F := F)) Variants.none (c : Thread nD τ) none) Set.univ p Q

variable {α : Type}

/-- Waiting for a copy on row `t` of head `h`: the cell's payload. -/
theorem wp_slotWait {c : Dev nD} {t : Fin 3} {h : Fin 8} {d : Fin 4} (hd : xD c t.val = {d}) {O : CellTallies nD τ sig Unit} {n : ℕ}
    (hlv : lv (xcell c t h) () ≤ n) (hO : Above n O) {k : PUnit → Prog (TpuEff nD τ sig (Elt F) Λ₀ .tc) α} {Q : α → sProp 𝕄} {hs hs' : (slotM h).view.WordExact} :
    iprop(inv KV κ (xcell c t h) ∗ levAts L lv ∗ cred (tallyAt (xcell c t h) () N) ∗ OW c O ∗ AP c t h 0)
      ⊢ iprop(((OW c O ∗ AP c t h 1 ∗ xPay KV c t.val h) -∗ WP c (k ⟨⟩) Q)
          -∗ WP c (.op (.waitDma2 (xS t h) (slotM h) (slotM h) hs hs') k) Q) := by
  unfold OW AP
  iintro ⟨#HI, #Hlev, Hc, ⟨%W, HO⟩, Hat⟩ Hk
  iapply (Rounds.wp_wait_rest_token Variants.none ER (Rd (F := F) KV) (c : Thread nD τ) none (w := .waitDma2 (xS t h) (slotM h) (slotM h) hs hs') (κ := κ (xcell c t h))
      (wpE_waitDma2_eq Variants.none (c : Thread nD τ) none Set.univ) (Set.mem_univ _) () (O := O) (W := W) (R := 0) (m := 0) (T := ∅)
      ((Nat.zero_add _).trans (expect_x KV c t h hd).symm)) $$ [Hc HO Hat]
  · isplitr; · iexact HI
    isplitl [Hc]; · iexact Hc
    isplitl [HO]; · iexact HO
    isplitr; · iapply (mayWait_of (F := F) hlv hO); iexact Hlev
    iexact Hat
  iintro ⟨HO, Hat, -, Hpay⟩
  ihave Hp := (Entails.of_eq (rest_x KV c t h hd)) $$ Hpay
  iapply Hk
  isplitl [HO]; · iexists _; iexact HO
  isplitl [Hat] <;> iassumption

/-- Sending slot `h` from device `c` to device `n = c'`. -/
theorem wp_slotSend {c c' n : Dev nD} (hn : n = c') {t : Fin 3} (ht : t.val ≠ 2) {h : Fin 8} {d : Fin 4} (hd₁ : d ∈ xD c t.val) (hd₂ : d ∈ xD c' 2)
    (O : CellTallies nD τ sig Unit) {k : PUnit → Prog (TpuEff nD τ sig (Elt F) Λ₀ .tc) α} {Q : α → sProp 𝕄}
    {hsc : (slotM h).view.ref.isScScratch = false} {hs hd hsem} :
    iprop(inv KV κ (xcell c t h) ∗ inv KV κ (xcell c' 2 h) ∗ slotPts c h (qS c t.val) KV ∗ (∃ f, slotPts c' h fullShare f)
        ∗ OW c (O + tallyAt (xcell c' 2 h) () N)
        ∗ dutyTok ER (xcell c t h) 0 d ∗ reached ER (xcell c t h) 0 ∗ dutyTok ER (xcell c' 2 h) 0 d ∗ reached ER (xcell c' 2 h) 0)
      ⊢ iprop(((cred (tallyAt (xcell c t h) () N) ∗ OW c O) -∗ WP c (k ⟨⟩) Q)
          -∗ WP c (.op (.enqueueDma (slotM h) (.remote (Dev.tc n : Thread nD τ) (slotM h) (.dma (xS t h)) hsc) (.dma (xS 2 h)) hs hd hsem) k) Q) := by
  subst hn
  unfold OW
  iintro ⟨#HI₁, #HI₂, Hsrc, ⟨%fd, Hdst⟩, ⟨%W, HO⟩, Ht₁, #Hr₁, Ht₂, #Hr₂⟩ Hk
  iapply (Rounds.wp_send_pointsTo Variants.none ER (Rd (F := F) KV) (c : Thread nD τ) none (κ₁ := κ (xcell c t h)) (κ₂ := κ (xcell n 2 h))
      (c' := (n : Thread nD τ)) (src := slotM h) (dst := slotM h) (q := qS c t.val) (fs := asSlot c h KV) (fd := asSlot n h fd) (r₁ := 0) (r₂ := 0) (d₁ := d) (d₂ := d)
      (by rw [duties_x]; exact hd₁) (by rw [duties_x]; exact hd₂) () () N rfl (amount_x KV c t h d) (amount_x KV n 2 h d) O rfl (W := W)
      (Entails.of_eq (Eq.symm ((payload_x KV c t h d).trans (if_neg ht))))
      (Entails.of_eq ((slot_landed n c h fd KV).trans ((payload_x KV n 2 h d).trans (if_pos rfl)).symm)))
    $$ [Hsrc Hdst HO Ht₁ Ht₂]
  · isplitr; · iexact HI₁
    isplitr; · iexact HI₂
    isplitl [Hsrc]; · unfold slotPts; iexact Hsrc
    isplitl [Hdst]; · unfold slotPts; iexact Hdst
    isplitl [HO]; · iexact HO
    isplitl [Ht₁]; · iexact Ht₁
    isplitr; · iexact Hr₁
    isplitl [Ht₂]; · iexact Ht₂
    iexact Hr₂
  iintro ⟨Hc, HO⟩
  iapply Hk
  isplitl [Hc]; · iexact Hc
  iexists W; iexact HO

theorem kv_inb (h : Fin 8) (j : Fin 2) : ∀ a, (![h.val, j.val, 0, 0] : Fin 4 → Nat) a + S1x1x1024x128.size a ≤ S8x2x1024x128.size a := by
  revert h j; decide

abbrev kvR (h : Fin 8) (j : Fin 2) : Rect S8x2x1024x128 := Rect.unit (s := S8x2x1024x128) ![h.val, j.val, 0, 0] S1x1x1024x128.size (kv_inb h j)

/-- Head `h`'s keys (`j = 0`) or values (`j = 1`). -/
def kvAt (h : Fin 8) (j : Fin 2) : Vec F S1x1x1024x128 .bf16 := commM.view.readAt (Elt F) (kvR h j).toLoadRect KV

/-- Loading a head's keys or values out of its slot. -/
theorem wp_slotLoad {c : Dev nD} {h : Fin 8} {j : Fin 2} {q : PosShare TreeShare}
    {k : Vec F S1x1x1024x128 .bf16 → Prog (TpuEff nD τ sig (Elt F) Λ₀ .tc) α} {Q : α → sProp 𝕄} {hl} :
    (slotPts c h q KV : sProp 𝕄) ⊢ iprop((slotPts c h q KV -∗ WP c (k (kvAt KV h j)) Q)
          -∗ WP c (.op (.load commM (kvR h j).toLoadRect hl) k) Q) := by
  unfold slotPts
  refine wp_load Variants.none (c : Thread nD τ) none Set.univ (m := commM) ?_
  intro i hi
  obtain ⟨x, hx, rfl⟩ := Finset.mem_map.mp hi
  refine slot_mem.mpr ?_
  have h0 := (Rect.mem_set_unit.mp hx) 0
  simp only [Matrix.cons_val_zero] at h0
  have h1 : S1x1x1024x128.size 0 = 1 := rfl
  show (x 0).val = _
  omega

end Cert.KernelIdeal.Pf

end
-- ==== Proof.Heads.lean ====
/-
One head of the kernel on a device: what the device holds before the head's copy has arrived, after it, and after it
has been passed on; and the kernel's program fragments for a head, with a rule for each.
-/
module

public import proofs.«01_k».proof.Proof.Frags

@[expose] public section

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (KV : (cc0_scratch0 : Ref sig .tc).ty.Contents (Elt F)) (κ : GSem nD τ sig → ℕ)

/-! ## What every device knows throughout -/

def barCells : Finset (GSem nD τ sig) := Finset.univ.image barCell
def xCells : Finset (GSem nD τ sig) := Finset.univ.image fun p : Dev nD × Fin 3 × Fin 8 => xcell p.1 p.2.1 p.2.2

/-- All cells' invariants, the levels, and the device's own transfer cells open. -/
def Ctx (c : Dev nD) : sProp 𝕄 :=
  iprop((bigSep (barCells ∪ xCells) fun g => cellInv ER (Rd (F := F) KV) (κ g) g) ∗ levAts L lv
    ∗ bigSep Finset.univ fun p : Fin 3 × Fin 8 => reached ER (xcell c p.1 p.2) 0)

instance Ctx_persistent (c : Dev nD) : BI.Persistent (Ctx KV κ c) := by unfold Ctx; infer_instance

omit [FloatOps F] [Named F] in
theorem inv_all {g : GSem nD τ sig} (hg : g ∈ barCells ∪ xCells) :
    (bigSep (barCells ∪ xCells) fun g => (cellInv ER (Rd (F := F) KV) (κ g) g : sProp 𝕄)) ⊢ cellInv ER (Rd (F := F) KV) (κ g) g := bigSep_elim hg
omit [FloatOps F] [Named F] in
theorem open_all (c : Dev nD) (t : Fin 3) (h : Fin 8) :
    (bigSep Finset.univ fun p : Fin 3 × Fin 8 => (reached ER (xcell c p.1 p.2) 0 : sProp 𝕄)) ⊢ reached ER (xcell c t h) 0 := bigSep_elim (Finset.mem_univ (t, h))

theorem x_mem (c : Dev nD) (t : Fin 3) (h : Fin 8) : xcell c t h ∈ barCells ∪ xCells :=
  Finset.mem_union_right _ (Finset.mem_image.mpr ⟨(c, t, h), Finset.mem_univ _, rfl⟩)
theorem bar_mem (c : Dev nD) : barCell c ∈ barCells ∪ xCells := Finset.mem_union_left _ (Finset.mem_image.mpr ⟨c, Finset.mem_univ _, rfl⟩)

omit [FloatOps F] [Named F] in
theorem inv_x (c c' : Dev nD) (t : Fin 3) (h : Fin 8) : Ctx KV κ c ⊢ inv KV κ (xcell c' t h) := by
  unfold Ctx; iintro ⟨H, -⟩; iapply (inv_all KV κ (x_mem c' t h)); iexact H
omit [FloatOps F] [Named F] in
theorem inv_bar (c c' : Dev nD) : Ctx KV κ c ⊢ inv KV κ (barCell c') := by
  unfold Ctx; iintro ⟨H, -⟩; iapply (inv_all KV κ (bar_mem c')); iexact H
omit [FloatOps F] [Named F] in
theorem ctx_lev (c : Dev nD) : Ctx KV κ c ⊢ levAts L lv := by unfold Ctx; iintro ⟨-, H, -⟩; iexact H
omit [FloatOps F] [Named F] in
theorem ctx_open (c : Dev nD) (t : Fin 3) (h : Fin 8) : Ctx KV κ c ⊢ reached ER (xcell c t h) 0 := by
  unfold Ctx; iintro ⟨-, -, H⟩; iapply (open_all (F := F) c t h); iexact H

/-! ## A head's state -/

def qL (c : Dev nD) : PosShare TreeShare := if c = 0 ∨ c = 1 then fullShare.left else fullShare

abbrev crd (c : Dev nD) (t : Fin 3) (h : Fin 8) : sProp 𝕄 := cred (tallyAt (xcell c t h) () N)

/-- Device 0 once its copies have left: it keeps half of the slot, and waits for the rest. -/
def Head0 (h : Fin 8) : sProp 𝕄 := iprop(slotPts 0 h fullShare.left KV ∗ crd 0 0 h ∗ crd 0 1 h ∗ AP 0 0 h 0 ∗ AP 0 1 h 0 ∗ AP 0 2 h 0)
/-- What device 1 passes a slot on with: the duties of its copy, and device 2's slot. -/
def Pass (h : Fin 8) : sProp 𝕄 :=
  iprop(dutyTok ER (xcell 1 0 h) 0 1 ∗ dutyTok ER (xcell 2 2 h) 0 1 ∗ (∃ f, slotPts (F := F) 2 h fullShare f) ∗ reached ER (xcell 2 2 h) 0)

/-- Before the head's copy has arrived (on device 0: after its copies have left). -/
def Pend (c : Dev nD) (h : Fin 8) : sProp 𝕄 :=
  if c = 0 then Head0 KV h else iprop(crd c 2 h ∗ (AP c 0 h 0 ∗ AP c 1 h 0 ∗ AP c 2 h 0) ∗ if c = 1 then Pass h else iprop(emp))

/-- After it has arrived. -/
def Mid (c : Dev nD) (h : Fin 8) : sProp 𝕄 :=
  if c = 0 then Head0 KV h else iprop(slotPts c h fullShare KV ∗ (AP c 0 h 0 ∗ AP c 1 h 0 ∗ AP c 2 h 1) ∗ if c = 1 then Pass h else iprop(emp))

/-- What is left beside the slot once it has been passed on. -/
def Rest (c : Dev nD) (h : Fin 8) : sProp 𝕄 :=
  if c = 0 then iprop(crd 0 0 h ∗ crd 0 1 h ∗ AP 0 0 h 0 ∗ AP 0 1 h 0 ∗ AP 0 2 h 0)
  else iprop((AP c 0 h 0 ∗ AP c 1 h 0 ∗ AP c 2 h 1) ∗ if c = 1 then crd 1 0 h else iprop(emp))

/-- After it has been passed on. -/
def Done (c : Dev nD) (h : Fin 8) : sProp 𝕄 := iprop(slotPts c h (qL c) KV ∗ Rest c h)

/-- The rounds a device's transfer cells end at: 1 where it waited. -/
def rnd (c : Dev nD) (t : Fin 3) : ℕ := if xD c t.val = ∅ then 0 else 1

/-- After the departures have been waited for. -/
def Fini (c : Dev nD) (h : Fin 8) : sProp 𝕄 :=
  iprop(slotPts c h fullShare KV ∗ AP c 0 h (rnd c 0) ∗ AP c 1 h (rnd c 1) ∗ AP c 2 h (rnd c 2))

/-- What the device still owes from head `n` on: only device 1 passes copies on. -/
def Ow (c : Dev nD) (n : ℕ) : CellTallies nD τ sig Unit := if c = 1 then rem 2 n else 0

theorem Ow_last (c : Dev nD) : Ow c 8 = 0 := by unfold Ow; split; exacts [rem_last 2, rfl]

/-! ## The fragments -/

variable {α : Type}

/-- The device's number as the kernel computes it. -/
abbrev me (c : Dev nD) : BitVec 32 := Scalar.remsi (Scalar.divsi (Dev.word c) 1#32) 4#32

abbrev TP (α : Type) := Prog (TpuEff nD τ sig (Elt F) Λ₀ .tc) α

def recvP (h : Fin 8) (v : BitVec 32) (k : TP (F := F) α) : TP (F := F) α :=
  if Scalar.cmpi .ne (Scalar.extui (Scalar.cmpi .ne v 0#32) : BitVec 32) 0#32 = 1#1 then
    .op (.waitDma2 (xS 2 h) (slotM h) (slotM h) (slot_words h) (slot_words h)) fun _ => k
  else k

def fwdP (h : Fin 8) (c : Dev nD) (k : TP (F := F) α) : TP (F := F) α :=
  if hc : k0_cond7 c = 1#1 then
    .op (.enqueueDma (slotM h) (.remote (Dev.tc (⟨k0_dev19, k0_dev19_lt c hc⟩ : Dev nD)) (slotM h) (.dma (xS 0 h))) (.dma (xS 2 h))
      (slot_words h) (slot_words h) ⟨⟨rfl, Or.inl rfl⟩, trivial⟩) fun _ => k
  else k

def ldP (h : Fin 8) (j : Fin 2) (k : Vec F S1x1x1024x128 .bf16 → TP (F := F) α) : TP (F := F) α :=
  .op (.load commM (kvR h j).toLoadRect (View.loadsAt_vmem Facts₀.h_S1x1x1024x128)) k

variable {Q : α → sProp (MT nD τ sig Unit (Elt F) ℕ UU ℕ)}

theorem xD_recv (c : Dev nD) (hc : c ≠ 0) : xD c 2 = {if c = 2 then 1 else 0} := by revert hc; revert c; decide
theorem cond_recv (c : Dev nD) : (Scalar.cmpi .ne (Scalar.extui (Scalar.cmpi .ne (me c) 0#32) : BitVec 32) 0#32 = 1#1) ↔ c ≠ 0 := by revert c; decide
theorem cond_fwd (c : Dev nD) : k0_cond7 c = 1#1 ↔ c = 1 := by revert c; decide

theorem recv_order (c : Dev nD) (h : Fin 8) (n : ℕ) : Above (lv (xcell c 2 h) ()) (Ow c n) := by
  rw [lv_recv]; unfold Ow
  by_cases hc : c = 1
  · rw [if_pos hc, hc]; exact above_rem2 n
  · rw [if_neg hc]; exact above_zero _

omit [FloatOps F] [Named F] in
theorem recv_pay (c : Dev nD) (h : Fin 8) : (xPay KV c (2 : Fin 3).val h : sProp 𝕄) ⊢ slotPts c h fullShare KV := Entails.of_eq (if_pos rfl)

theorem wp_recv (c : Dev nD) (h : Fin 8) (k : TP (F := F) α) :
    iprop(Ctx KV κ c ∗ Pend KV c h ∗ OW c (Ow c h.val))
      ⊢ iprop(((Mid KV c h ∗ OW c (Ow c h.val)) -∗ WP c k Q) -∗ WP c (recvP h (me c) k) Q) := by
  unfold Pend Mid recvP
  by_cases hc : c = 0
  · rw [if_neg (mt (cond_recv c).mp (not_not.mpr hc)), if_pos hc, if_pos hc]
    iintro ⟨-, HP, HO⟩ Hk
    iapply Hk; isplitl [HP] <;> iassumption
  · rw [if_pos ((cond_recv c).mpr hc), if_neg hc, if_neg hc]
    iintro ⟨#HC, ⟨Hc, ⟨HA0, HA1, HA2⟩, HT⟩, HO⟩ Hk
    iapply (wp_slotWait KV κ (c := c) (t := 2) (h := h) (xD_recv c hc) (Nat.le_refl _) (recv_order c h h.val)) $$ [Hc HO HA2]
    · isplitr; · iapply (inv_x KV κ c); iexact HC
      isplitr; · iapply (ctx_lev KV κ c); iexact HC
      isplitl [Hc]; · iexact Hc
      isplitl [HO]; · iexact HO
      iexact HA2
    iintro ⟨HO, HA2, Hs⟩
    iapply Hk
    isplitr [HO]
    · isplitl [Hs]; · iapply (recv_pay KV c h); iexact Hs
      isplitr [HT]
      · isplitl [HA0]; · iexact HA0
        isplitl [HA1]; · iexact HA1
        iexact HA2
      iexact HT
    iexact HO

theorem Ow_ne {c : Dev nD} (hc : c ≠ 1) (n : ℕ) : Ow c n = 0 := if_neg hc

omit [FloatOps F] [Named F] in
theorem done_of_mid {c : Dev nD} (hc : c ≠ 1) (h : Fin 8) : Mid KV c h ⊢ Done KV c h := by
  unfold Mid Done Rest Head0 qL
  by_cases h0 : c = 0
  · subst h0; exact BI.Entails.refl _
  · rw [if_neg h0, if_neg h0, if_neg hc, if_neg hc, if_neg (fun h => h.elim h0 hc)]

theorem wp_fwd (c : Dev nD) (h : Fin 8) (k : TP (F := F) α) :
    iprop(Ctx KV κ c ∗ Mid KV c h ∗ OW c (Ow c h.val))
      ⊢ iprop(((Done KV c h ∗ OW c (Ow c (h.val + 1))) -∗ WP c k Q) -∗ WP c (fwdP h c k) Q) := by
  by_cases hc : c = 1
  · subst hc
    unfold fwdP; rw [dif_pos ((cond_fwd 1).mpr rfl)]
    unfold Mid Done Rest Pass qL
    rw [if_neg (show ¬ (1 : Dev nD) = 0 by decide), if_neg (show ¬ (1 : Dev nD) = 0 by decide), if_pos (rfl : (1 : Dev nD) = 1), if_pos (rfl : (1 : Dev nD) = 1),
      if_pos (show (1 : Dev nD) = 0 ∨ (1 : Dev nD) = 1 by decide),
      show Ow 1 h.val = Ow 1 (h.val + 1) + tallyAt (xcell 2 2 h) () N from rem_peel 2 h]
    iintro ⟨#HC, ⟨Hs, HA, Ht1, Ht2, Hd, #Hr⟩, HO⟩ Hk
    ihave Hss := ((slot_share 1 h fullShare KV).1) $$ Hs
    icases Hss with ⟨HsL, HsR⟩
    iapply (wp_slotSend KV κ (c := 1) (c' := 2) (n := ⟨k0_dev19, k0_dev19_lt 1 (by decide)⟩) (by decide) (t := 0) (by decide) (h := h) (d := 1)
      (by decide) (by decide) (Ow 1 (h.val + 1))) $$ [HsR Ht1 Ht2 Hd HO]
    · isplitr; · iapply (inv_x KV κ 1); iexact HC
      isplitr; · iapply (inv_x KV κ 1); iexact HC
      isplitl [HsR]; · iexact HsR
      isplitl [Hd]; · iexact Hd
      isplitl [HO]; · iexact HO
      isplitl [Ht1]; · iexact Ht1
      isplitr; · iapply (ctx_open KV κ 1); iexact HC
      isplitl [Ht2]; · iexact Ht2
      iexact Hr
    iintro ⟨Hc, HO⟩
    iapply Hk
    isplitr [HO]
    · isplitl [HsL]; · iexact HsL
      isplitl [HA] <;> iassumption
    iexact HO
  · unfold fwdP; rw [dif_neg (mt (cond_fwd c).mp hc), Ow_ne hc, Ow_ne hc]
    iintro ⟨-, HP, HO⟩ Hk
    iapply Hk; isplitl [HP]; · iapply (done_of_mid KV hc h); iexact HP
    iexact HO

theorem wp_ld (c : Dev nD) (h : Fin 8) (j : Fin 2) (k : Vec F S1x1x1024x128 .bf16 → TP (F := F) α) :
    Done KV c h ⊢ iprop((Done KV c h -∗ WP c (k (kvAt KV h j)) Q) -∗ WP c (ldP h j k) Q) := by
  unfold Done ldP
  iintro ⟨Hs, HR⟩ Hk
  iapply (wp_slotLoad KV) $$ Hs
  iintro Hs
  iapply Hk
  isplitl [Hs] <;> iassumption

end Cert.KernelIdeal.Pf

end
-- ==== Proof.Form.lean ====
/-
The kernel's body as one program built of a few pieces: the handshake, the broadcast, the heads, the output, and the
waits for the copies' departures.
-/
module

public import proofs.«01_k».proof.Proof.Heads

@[expose] public section

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-! ## What a head computes -/

theorem col_slices (h : Fin 8) : S1024x1024.Slices ![0, 128 * h.val] S1024x128 := by
  fin_cases h
  · exact Facts₀.slices_S1024x1024_o0_0_S1024x128
  · exact Facts₀.slices_S1024x1024_o0_128_S1024x128
  · exact Facts₀.slices_S1024x1024_o0_256_S1024x128
  · exact Facts₀.slices_S1024x1024_o0_384_S1024x128
  · exact Facts₀.slices_S1024x1024_o0_512_S1024x128
  · exact Facts₀.slices_S1024x1024_o0_640_S1024x128
  · exact Facts₀.slices_S1024x1024_o0_768_S1024x128
  · exact Facts₀.slices_S1024x1024_o0_896_S1024x128

/-- The scores of one head, masked. -/
def scores (h : Fin 8) (q : FVec F S1024x1024 .bf16) (msk : IVec S1024x1024 1) (kk : Vec F S1x1x1024x128 .bf16) : FVec F S1024x1024 .f32 :=
  select msk
    (mulf (matmul dot_S1024x128_S1024x128_S1024x1024_1_1_0_0_n_n none (extractStridedSlice S1024x128 ![0, 128 * h.val] q (col_slices h))
      (shapeCast S1024x128 kk Facts₀.shapeCasts_S1x1x1024x128_S1024x128) (constant S1024x1024 .f32 0x00000000#32))
      (broadcast S1024x1024 (Scalar.ofBits .f32 0x3DB504F3#32)))
    (broadcast S1024x1024 (Named.named κ "mask" 0xCE6E6B28#32))

/-- One head's attention: its columns of the context. -/
def headOut (h : Fin 8) (q : FVec F S1024x1024 .bf16) (msk : IVec S1024x1024 1) (kk vv : Vec F S1x1x1024x128 .bf16) : FVec F S1024x128 .bf16 :=
  k0_pay9 (shapeCast S1024x128 vv Facts₀.shapeCasts_S1x1x1024x128_S1024x128) (scores h q msk kk)

/-- The kernel's block-causal mask. -/
def msk : IVec S1024x1024 1 :=
  k0_pay6 k0_pay3 (iota .tc S1024x1024 32 [1] Facts₀.iota_S1024x1024_d1_w32) 64#32 k0_pay4 k0_pay5 (Scalar.extui (Scalar.cmpi .sgt 64#32 0#32)) 0#32

/-! ## The pieces -/

variable {α β : Type}

/-- Head after head. -/
def loopP (step : Fin 8 → TP (F := F) α → TP (F := F) α) : (m : ℕ) → m ≤ 8 → TP (F := F) α → TP (F := F) α
  | 0, _, k => k
  | m + 1, hm, k => step ⟨8 - (m + 1), by omega⟩ (loopP step m (by omega) k)

def shakeP (c : Dev nD) (k : TP (F := F) α) : TP (F := F) α :=
  let w1 : TP (F := F) α := if Scalar.cmpi .ne (Scalar.extui (Scalar.cmpi .eq (me c) 1#32) : BitVec 32) 0#32 = 1#1 then .op (.semWait barS ((1 : ℕ) : ℤ)) fun _ => k else k
  let w0 : TP (F := F) α := if Scalar.cmpi .ne (Scalar.extui (Scalar.cmpi .eq (me c) 0#32) : BitVec 32) 0#32 = 1#1 then .op (.semWait barS ((2 : ℕ) : ℤ)) fun _ => w1 else w1
  let s1 : TP (F := F) α := if h : k0_cond2 c = 1#1 then .op (.semSignal (((⟨k0_dev2, k0_dev2_lt c h⟩ : Dev nD) : Thread nD τ)) barS ((1 : ℕ) : ℤ)) fun _ => w0 else w0
  if h : k0_cond1 c = 1#1 then .op (.semSignal (((⟨k0_dev1, k0_dev1_lt c h⟩ : Dev nD) : Thread nD τ)) barS ((1 : ℕ) : ℤ)) fun _ => s1 else s1

abbrev kvM : Memref sig .tc .vmem S8x2x1024x128 .bf16 := Memref.whole cc0_stg2_0
abbrev fullR : Rect S8x2x1024x128 := Rect.unit (s := S8x2x1024x128) ![0, 0, 0, 0] S8x2x1024x128.size Facts₀.inb_S8x2x1024x128_S8x2x1024x128_0_0_0_0
abbrev sqR : Rect S1024x1024 := Rect.unit (s := S1024x1024) ![0, 0] S1024x1024.size Facts₀.inb_S1024x1024_S1024x1024_0_0

/-- Device 0 sends slot `h` to devices 1 and 3. -/
def sendP (c : Dev nD) (hc : k0_cond5 c = 1#1) (h : Fin 8) (k : TP (F := F) α) : TP (F := F) α :=
  .op (.enqueueDma (slotM h) (.remote (Dev.tc (⟨k0_dev3, k0_dev3_lt c hc⟩ : Dev nD)) (slotM h) (.dma (xS 0 h))) (.dma (xS 2 h))
      (slot_words h) (slot_words h) ⟨⟨rfl, Or.inl rfl⟩, trivial⟩) fun _ =>
  .op (.enqueueDma (slotM h) (.remote (Dev.tc (⟨k0_dev4, k0_dev4_lt c hc⟩ : Dev nD)) (slotM h) (.dma (xS 1 h))) (.dma (xS 2 h))
      (slot_words h) (slot_words h) ⟨⟨rfl, Or.inl rfl⟩, trivial⟩) fun _ => k

/-- The staged keys and values go to the landing buffer. -/
def fillP (k : TP (F := F) α) : TP (F := F) α :=
  .op (.load kvM fullR.toLoadRect (View.loadsAt_vmem Facts₀.h_S8x2x1024x128)) fun v =>
  .op (.load commM fullR.toLoadRect (View.loadsAt_vmem Facts₀.h_S8x2x1024x128)) fun _ =>
  .op (.store commM fullR (k0_pay1 v) Finset.univ (View.stores_vmem Facts₀.h_S8x2x1024x128
    ((Memref.isWhole_whole cc0_scratch0).storeExact_slice rfl _ Facts₀.packedbf16_S8x2x1024x128_S8x2x1024x128_0_0_0_0) (fun _ => rfl)) (.inl rfl)) fun _ => k

def bcastP (c : Dev nD) (k : TP (F := F) α) : TP (F := F) α :=
  if hc : k0_cond5 c = 1#1 then fillP (loopP (sendP c hc) 8 (Nat.le_refl 8) k) else k

theorem col_inb (h : Fin 8) : ∀ a, (![0, 128 * h.val] : Fin 2 → Nat) a + S1024x128.size a ≤ S1024x1024.size a := by
  revert h; decide

abbrev colR (h : Fin 8) : Rect S1024x1024 := Rect.unit (s := S1024x1024) ![0, 128 * h.val] S1024x128.size (col_inb h)
abbrev ctxM : Memref sig .tc .vmem S1024x1024 .bf16 := Memref.whole cc0_scratch1

theorem col_stores (h : Fin 8) : (ctxM.access (colR h)).Stores Finset.univ := by
  fin_cases h
  · exact View.stores_vmem Facts₀.h_S1024x128 ((Memref.isWhole_whole cc0_scratch1).storeExact_slice rfl _ Facts₀.packedbf16_S1024x1024_S1024x128_0_0) (fun _ => rfl)
  · exact View.stores_vmem Facts₀.h_S1024x128 ((Memref.isWhole_whole cc0_scratch1).storeExact_slice rfl _ Facts₀.packedbf16_S1024x1024_S1024x128_0_128) (fun _ => rfl)
  · exact View.stores_vmem Facts₀.h_S1024x128 ((Memref.isWhole_whole cc0_scratch1).storeExact_slice rfl _ Facts₀.packedbf16_S1024x1024_S1024x128_0_256) (fun _ => rfl)
  · exact View.stores_vmem Facts₀.h_S1024x128 ((Memref.isWhole_whole cc0_scratch1).storeExact_slice rfl _ Facts₀.packedbf16_S1024x1024_S1024x128_0_384) (fun _ => rfl)
  · exact View.stores_vmem Facts₀.h_S1024x128 ((Memref.isWhole_whole cc0_scratch1).storeExact_slice rfl _ Facts₀.packedbf16_S1024x1024_S1024x128_0_512) (fun _ => rfl)
  · exact View.stores_vmem Facts₀.h_S1024x128 ((Memref.isWhole_whole cc0_scratch1).storeExact_slice rfl _ Facts₀.packedbf16_S1024x1024_S1024x128_0_640) (fun _ => rfl)
  · exact View.stores_vmem Facts₀.h_S1024x128 ((Memref.isWhole_whole cc0_scratch1).storeExact_slice rfl _ Facts₀.packedbf16_S1024x1024_S1024x128_0_768) (fun _ => rfl)
  · exact View.stores_vmem Facts₀.h_S1024x128 ((Memref.isWhole_whole cc0_scratch1).storeExact_slice rfl _ Facts₀.packedbf16_S1024x1024_S1024x128_0_896) (fun _ => rfl)

/-- A head's columns of the context are stored (what was there is read and dropped). -/
def colP (h : Fin 8) (w : FVec F S1024x128 .bf16) (k : TP (F := F) α) : TP (F := F) α :=
  .op (.load ctxM (colR h).toLoadRect (View.loadsAt_vmem Facts₀.h_S1024x128)) fun _ =>
  .op (.store ctxM (colR h) w Finset.univ (col_stores h) (.inl rfl)) fun _ => k

def headP (c : Dev nD) (q : FVec F S1024x1024 .bf16) (h : Fin 8) (k : TP (F := F) α) : TP (F := F) α :=
  recvP h (me c) (fwdP h c (ldP h 0 fun kk => ldP h 1 fun vv => colP h (headOut h q msk kk vv) k))

def queryP (k : FVec F S1024x1024 .bf16 → TP (F := F) α) : TP (F := F) α :=
  .op (.load (Memref.whole cc0_stg0_0 : Memref sig .tc .vmem S1024x1024 .bf16) sqR.toLoadRect (View.loadsAt_vmem Facts₀.h_S1024x1024)) fun x =>
  .op (.load (Memref.whole cc0_stg1_0 : Memref sig .tc .vmem S1024x1024 .bf16) sqR.toLoadRect (View.loadsAt_vmem Facts₀.h_S1024x1024)) fun w => k (k0_pay2 x w)

def readP (k : FVec F S1024x1024 .f32 → TP (F := F) α) : TP (F := F) α :=
  .op (.load ctxM sqR.toLoadRect (View.loadsAt_vmem Facts₀.h_S1024x1024)) fun x =>
  .op (.load (Memref.whole cc0_stg3_0 : Memref sig .tc .vmem S1024x1024 .bf16) sqR.toLoadRect (View.loadsAt_vmem Facts₀.h_S1024x1024)) fun w =>
  .op (.load (Memref.whole cc0_stg4_0 : Memref sig .tc .vmem S1024x1024 .f32) sqR.toLoadRect (View.loadsAt_vmem Facts₀.h_S1024x1024)) fun _ => k (k0_pay24 x w)

def writeP (w : FVec F S1024x1024 .f32) (k : TP (F := F) α) : TP (F := F) α :=
  .op (.store (Memref.whole cc0_stg4_0 : Memref sig .tc .vmem S1024x1024 .f32) sqR w Finset.univ (View.stores_vmem_bits_univ Facts₀.h_S1024x1024 rfl) (.inl rfl)) fun _ => k

def gone (t : Fin 3) (h : Fin 8) (k : TP (F := F) α) : TP (F := F) α :=
  .op (.waitDma2 (xS t h) (slotM h) (slotM h) (slot_words h) (slot_words h)) fun _ => k

/-- Devices 0 and 1 wait until their copies have left. -/
def gone0P (v : BitVec 32) (k : TP (F := F) α) : TP (F := F) α :=
  if Scalar.cmpi .ne v 0#32 = 1#1 then loopP (fun h k => gone 0 h (gone 1 h k)) 8 (Nat.le_refl 8) k else k
def gone1P (v : BitVec 32) (k : TP (F := F) α) : TP (F := F) α :=
  if Scalar.cmpi .ne v 0#32 = 1#1 then loopP (gone 0) 8 (Nat.le_refl 8) k else k

/-- The body. -/
def bodyP : TP (F := F) PUnit :=
  .op .deviceId fun c => shakeP c (bcastP c (queryP fun q => loopP (headP c q) 8 (Nat.le_refl 8) (readP fun w => writeP w
    (gone0P (Scalar.extui (Scalar.cmpi .eq (me c) 0#32)) (gone1P (Scalar.extui (Scalar.cmpi .eq (me c) 1#32)) (.ret ⟨⟩))))))

/-! ## The printed body is this program -/

theorem recvP_bind (h : Fin 8) (v : BitVec 32) (k : TP (F := F) α) (f : α → TP (F := F) β) : (recvP h v k >>= f) = recvP h v (k >>= f) := by
  unfold recvP; split <;> rfl
theorem fwdP_bind (h : Fin 8) (c : Dev nD) (k : TP (F := F) α) (f : α → TP (F := F) β) : (fwdP h c k >>= f) = fwdP h c (k >>= f) := by
  unfold fwdP; split <;> rfl
theorem ldP_bind (h : Fin 8) (j : Fin 2) (k : Vec F S1x1x1024x128 .bf16 → TP (F := F) α) (f : α → TP (F := F) β) : (ldP h j k >>= f) = ldP h j fun v => k v >>= f := rfl
theorem colP_bind (h : Fin 8) (w) (k : TP (F := F) α) (f : α → TP (F := F) β) : (colP h w k >>= f) = colP h w (k >>= f) := rfl
theorem shakeP_bind (c : Dev nD) (k : TP (F := F) α) (f : α → TP (F := F) β) : (shakeP c k >>= f) = shakeP c (k >>= f) := by
  unfold shakeP; split <;> split <;> split <;> split <;> rfl
theorem fillP_bind (k : TP (F := F) α) (f : α → TP (F := F) β) : (fillP k >>= f) = fillP (k >>= f) := rfl
theorem sendP_bind (c : Dev nD) (hc) (h : Fin 8) (k : TP (F := F) α) (f : α → TP (F := F) β) : (sendP c hc h k >>= f) = sendP c hc h (k >>= f) := rfl
theorem gone_bind (t : Fin 3) (h : Fin 8) (k : TP (F := F) α) (f : α → TP (F := F) β) : (gone t h k >>= f) = gone t h (k >>= f) := rfl
theorem bcastP_bind (c : Dev nD) (k : TP (F := F) α) (f : α → TP (F := F) β) : (bcastP c k >>= f) = bcastP c (k >>= f) := by
  unfold bcastP; split <;> rfl
theorem queryP_bind (k : FVec F S1024x1024 .bf16 → TP (F := F) α) (f : α → TP (F := F) β) : (queryP k >>= f) = queryP fun q => k q >>= f := rfl
theorem readP_bind (k : FVec F S1024x1024 .f32 → TP (F := F) α) (f : α → TP (F := F) β) : (readP k >>= f) = readP fun q => k q >>= f := rfl
theorem writeP_bind (w) (k : TP (F := F) α) (f : α → TP (F := F) β) : (writeP w k >>= f) = writeP w (k >>= f) := rfl
theorem gone0P_bind (v : BitVec 32) (k : TP (F := F) α) (f : α → TP (F := F) β) : (gone0P v k >>= f) = gone0P v (k >>= f) := by
  unfold gone0P; split <;> rfl
theorem op_bind {γ : Type} (e) (k : γ → TP (F := F) α) (f : α → TP (F := F) β) : ((Prog.op e k : TP (F := F) α) >>= f) = .op e fun x => k x >>= f := rfl
theorem ret_bind (a : α) (f : α → TP (F := F) β) : ((Prog.ret a : TP (F := F) α) >>= f) = f a := rfl

set_option maxRecDepth 65536

/-- The two copies of a head, one at a time. -/
def send0 (c : Dev nD) (hc : k0_cond5 c = 1#1) (h : Fin 8) (k : TP (F := F) α) : TP (F := F) α :=
  .op (.enqueueDma (slotM h) (.remote (Dev.tc (⟨k0_dev3, k0_dev3_lt c hc⟩ : Dev nD)) (slotM h) (.dma (xS 0 h))) (.dma (xS 2 h))
      (slot_words h) (slot_words h) ⟨⟨rfl, Or.inl rfl⟩, trivial⟩) fun _ => k
def send1 (c : Dev nD) (hc : k0_cond5 c = 1#1) (h : Fin 8) (k : TP (F := F) α) : TP (F := F) α :=
  .op (.enqueueDma (slotM h) (.remote (Dev.tc (⟨k0_dev4, k0_dev4_lt c hc⟩ : Dev nD)) (slotM h) (.dma (xS 1 h))) (.dma (xS 2 h))
      (slot_words h) (slot_words h) ⟨⟨rfl, Or.inl rfl⟩, trivial⟩) fun _ => k
theorem send0_bind (c : Dev nD) (hc) (h : Fin 8) (k : TP (F := F) α) (f : α → TP (F := F) β) : (send0 c hc h k >>= f) = send0 c hc h (k >>= f) := rfl
theorem send1_bind (c : Dev nD) (hc) (h : Fin 8) (k : TP (F := F) α) (f : α → TP (F := F) β) : (send1 c hc h k >>= f) = send1 c hc h (k >>= f) := rfl

theorem part1 (c : Dev nD) (hc : k0_cond5 c = 1#1) :
    k0_part1 (F := F) (Memref.whole cc0_stg0_0) (Memref.isWhole_whole _) (Memref.whole cc0_stg1_0) (Memref.isWhole_whole _) (Memref.whole cc0_stg2_0) (Memref.isWhole_whole _) (Memref.whole cc0_stg3_0)
      (Memref.isWhole_whole _) (Memref.whole cc0_stg4_0) (Memref.isWhole_whole _) (Memref.whole cc0_scratch0) (Memref.isWhole_whole _) (Memref.whole cc0_scratch1) (Memref.isWhole_whole _) cc0_scratch2 cc0_scratch3 c hc =
      fillP (send0 c hc 0 (send1 c hc 0 (.ret ⟨⟩))) := by
  rw [k0_part1_eq_skeleton]; rfl

theorem part2 (c : Dev nD) (hc : k0_cond5 c = 1#1) :
    k0_part2 (F := F) (Memref.whole cc0_stg0_0) (Memref.isWhole_whole _) (Memref.whole cc0_stg1_0) (Memref.isWhole_whole _) (Memref.whole cc0_stg2_0) (Memref.isWhole_whole _) (Memref.whole cc0_stg3_0)
      (Memref.isWhole_whole _) (Memref.whole cc0_stg4_0) (Memref.isWhole_whole _) (Memref.whole cc0_scratch0) (Memref.isWhole_whole _) (Memref.whole cc0_scratch1) (Memref.isWhole_whole _) cc0_scratch2 cc0_scratch3 c hc =
      send0 c hc 1 (send1 c hc 1 (send0 c hc 2 (.ret ⟨⟩))) := by
  rw [k0_part2_eq_skeleton]; rfl

theorem part3 (c : Dev nD) (hc : k0_cond5 c = 1#1) :
    k0_part3 (F := F) (Memref.whole cc0_stg0_0) (Memref.isWhole_whole _) (Memref.whole cc0_stg1_0) (Memref.isWhole_whole _) (Memref.whole cc0_stg2_0) (Memref.isWhole_whole _) (Memref.whole cc0_stg3_0)
      (Memref.isWhole_whole _) (Memref.whole cc0_stg4_0) (Memref.isWhole_whole _) (Memref.whole cc0_scratch0) (Memref.isWhole_whole _) (Memref.whole cc0_scratch1) (Memref.isWhole_whole _) cc0_scratch2 cc0_scratch3 c hc =
      send1 c hc 2 (send0 c hc 3 (send1 c hc 3 (.ret ⟨⟩))) := by
  rw [k0_part3_eq_skeleton]; rfl

theorem part4 (c : Dev nD) (hc : k0_cond5 c = 1#1) :
    k0_part4 (F := F) (Memref.whole cc0_stg0_0) (Memref.isWhole_whole _) (Memref.whole cc0_stg1_0) (Memref.isWhole_whole _) (Memref.whole cc0_stg2_0) (Memref.isWhole_whole _) (Memref.whole cc0_stg3_0)
      (Memref.isWhole_whole _) (Memref.whole cc0_stg4_0) (Memref.isWhole_whole _) (Memref.whole cc0_scratch0) (Memref.isWhole_whole _) (Memref.whole cc0_scratch1) (Memref.isWhole_whole _) cc0_scratch2 cc0_scratch3 c hc =
      send0 c hc 4 (send1 c hc 4 (send0 c hc 5 (.ret ⟨⟩))) := by
  rw [k0_part4_eq_skeleton]; rfl

theorem part5 (c : Dev nD) (hc : k0_cond5 c = 1#1) :
    k0_part5 (F := F) (Memref.whole cc0_stg0_0) (Memref.isWhole_whole _) (Memref.whole cc0_stg1_0) (Memref.isWhole_whole _) (Memref.whole cc0_stg2_0) (Memref.isWhole_whole _) (Memref.whole cc0_stg3_0)
      (Memref.isWhole_whole _) (Memref.whole cc0_stg4_0) (Memref.isWhole_whole _) (Memref.whole cc0_scratch0) (Memref.isWhole_whole _) (Memref.whole cc0_scratch1) (Memref.isWhole_whole _) cc0_scratch2 cc0_scratch3 c hc =
      send1 c hc 5 (send0 c hc 6 (send1 c hc 6 (.ret ⟨⟩))) := by
  rw [k0_part5_eq_skeleton]; rfl

theorem part6  :
    k0_part6 (F := F) (Memref.whole cc0_stg0_0) (Memref.isWhole_whole _) (Memref.whole cc0_stg1_0) (Memref.isWhole_whole _) (Memref.whole cc0_stg2_0) (Memref.isWhole_whole _) (Memref.whole cc0_stg3_0)
      (Memref.isWhole_whole _) (Memref.whole cc0_stg4_0) (Memref.isWhole_whole _) (Memref.whole cc0_scratch0) (Memref.isWhole_whole _) (Memref.whole cc0_scratch1) (Memref.isWhole_whole _) cc0_scratch2 cc0_scratch3  =
      gone 0 0 (gone 1 0 (gone 0 1 (gone 1 1 (.ret ⟨⟩)))) := by
  rw [k0_part6_eq_skeleton]; rfl

theorem part7  :
    k0_part7 (F := F) (Memref.whole cc0_stg0_0) (Memref.isWhole_whole _) (Memref.whole cc0_stg1_0) (Memref.isWhole_whole _) (Memref.whole cc0_stg2_0) (Memref.isWhole_whole _) (Memref.whole cc0_stg3_0)
      (Memref.isWhole_whole _) (Memref.whole cc0_stg4_0) (Memref.isWhole_whole _) (Memref.whole cc0_scratch0) (Memref.isWhole_whole _) (Memref.whole cc0_scratch1) (Memref.isWhole_whole _) cc0_scratch2 cc0_scratch3  =
      gone 0 2 (gone 1 2 (gone 0 3 (gone 1 3 (.ret ⟨⟩)))) := by
  rw [k0_part7_eq_skeleton]; rfl

theorem part8  :
    k0_part8 (F := F) (Memref.whole cc0_stg0_0) (Memref.isWhole_whole _) (Memref.whole cc0_stg1_0) (Memref.isWhole_whole _) (Memref.whole cc0_stg2_0) (Memref.isWhole_whole _) (Memref.whole cc0_stg3_0)
      (Memref.isWhole_whole _) (Memref.whole cc0_stg4_0) (Memref.isWhole_whole _) (Memref.whole cc0_scratch0) (Memref.isWhole_whole _) (Memref.whole cc0_scratch1) (Memref.isWhole_whole _) cc0_scratch2 cc0_scratch3  =
      gone 0 4 (gone 1 4 (gone 0 5 (gone 1 5 (.ret ⟨⟩)))) := by
  rw [k0_part8_eq_skeleton]; rfl

theorem part9  :
    k0_part9 (F := F) (Memref.whole cc0_stg0_0) (Memref.isWhole_whole _) (Memref.whole cc0_stg1_0) (Memref.isWhole_whole _) (Memref.whole cc0_stg2_0) (Memref.isWhole_whole _) (Memref.whole cc0_stg3_0)
      (Memref.isWhole_whole _) (Memref.whole cc0_stg4_0) (Memref.isWhole_whole _) (Memref.whole cc0_scratch0) (Memref.isWhole_whole _) (Memref.whole cc0_scratch1) (Memref.isWhole_whole _) cc0_scratch2 cc0_scratch3  =
      gone 0 6 (gone 1 6 (gone 0 7 (gone 1 7 (.ret ⟨⟩)))) := by
  rw [k0_part9_eq_skeleton]; rfl

theorem part10  :
    k0_part10 (F := F) (Memref.whole cc0_stg0_0) (Memref.isWhole_whole _) (Memref.whole cc0_stg1_0) (Memref.isWhole_whole _) (Memref.whole cc0_stg2_0) (Memref.isWhole_whole _) (Memref.whole cc0_stg3_0)
      (Memref.isWhole_whole _) (Memref.whole cc0_stg4_0) (Memref.isWhole_whole _) (Memref.whole cc0_scratch0) (Memref.isWhole_whole _) (Memref.whole cc0_scratch1) (Memref.isWhole_whole _) cc0_scratch2 cc0_scratch3  =
      gone 0 0 (gone 0 1 (gone 0 2 (gone 0 3 (.ret ⟨⟩)))) := by
  rw [k0_part10_eq_skeleton]; rfl

theorem part11  :
    k0_part11 (F := F) (Memref.whole cc0_stg0_0) (Memref.isWhole_whole _) (Memref.whole cc0_stg1_0) (Memref.isWhole_whole _) (Memref.whole cc0_stg2_0) (Memref.isWhole_whole _) (Memref.whole cc0_stg3_0)
      (Memref.isWhole_whole _) (Memref.whole cc0_stg4_0) (Memref.isWhole_whole _) (Memref.whole cc0_scratch0) (Memref.isWhole_whole _) (Memref.whole cc0_scratch1) (Memref.isWhole_whole _) cc0_scratch2 cc0_scratch3  =
      gone 0 4 (gone 0 5 (gone 0 6 (gone 0 7 (.ret ⟨⟩)))) := by
  rw [k0_part11_eq_skeleton]; rfl

theorem part12  :
    k0_part12 (F := F) (Memref.whole cc0_stg0_0) (Memref.isWhole_whole _) (Memref.whole cc0_stg1_0) (Memref.isWhole_whole _) (Memref.whole cc0_stg2_0) (Memref.isWhole_whole _) (Memref.whole cc0_stg3_0)
      (Memref.isWhole_whole _) (Memref.whole cc0_stg4_0) (Memref.isWhole_whole _) (Memref.whole cc0_scratch0) (Memref.isWhole_whole _) (Memref.whole cc0_scratch1) (Memref.isWhole_whole _) cc0_scratch2 cc0_scratch3  =
      .op .deviceId fun c => shakeP c (.ret ⟨c, me c, Scalar.extui (Scalar.cmpi .eq (me c) 0#32)⟩) := by
  rw [k0_part12_eq_skeleton]; rfl

theorem part13 (c : Dev nD) (v : BitVec 32) :
    k0_part13 (F := F) (Memref.whole cc0_stg0_0) (Memref.isWhole_whole _) (Memref.whole cc0_stg1_0) (Memref.isWhole_whole _) (Memref.whole cc0_stg2_0) (Memref.isWhole_whole _) (Memref.whole cc0_stg3_0)
      (Memref.isWhole_whole _) (Memref.whole cc0_stg4_0) (Memref.isWhole_whole _) (Memref.whole cc0_scratch0) (Memref.isWhole_whole _) (Memref.whole cc0_scratch1) (Memref.isWhole_whole _) cc0_scratch2 cc0_scratch3 c v =
      bcastP c (.ret ⟨⟩) := by
  rw [k0_part13_eq_skeleton]; unfold k0_part13_skel bcastP; split
  · rename_i hc; simp only [part1, part2, part3, part4, part5, fillP_bind, send0_bind, send1_bind, ret_bind]; rfl
  · rfl

theorem part14  :
    k0_part14 (F := F) (Memref.whole cc0_stg0_0) (Memref.isWhole_whole _) (Memref.whole cc0_stg1_0) (Memref.isWhole_whole _) (Memref.whole cc0_stg2_0) (Memref.isWhole_whole _) (Memref.whole cc0_stg3_0)
      (Memref.isWhole_whole _) (Memref.whole cc0_stg4_0) (Memref.isWhole_whole _) (Memref.whole cc0_scratch0) (Memref.isWhole_whole _) (Memref.whole cc0_scratch1) (Memref.isWhole_whole _) cc0_scratch2 cc0_scratch3  =
      queryP fun q => .ret ⟨q, k0_pay3, iota .tc S1024x1024 32 [1] Facts₀.iota_S1024x1024_d1_w32, 64#32, k0_pay4, k0_pay5, Scalar.extui (Scalar.cmpi .sgt 64#32 0#32), 0#32⟩ := by
  rw [k0_part14_eq_skeleton]; rfl

theorem part15 (c : Dev nD) (v : BitVec 32) (q : FVec F S1024x1024 .bf16) (a b : IVec S1024x1024 32) (e : BitVec 32) (g i : IVec S1024x1024 32) (j l : BitVec 32) :
    k0_part15 (F := F) (Memref.whole cc0_stg0_0) (Memref.isWhole_whole _) (Memref.whole cc0_stg1_0) (Memref.isWhole_whole _) (Memref.whole cc0_stg2_0) (Memref.isWhole_whole _) (Memref.whole cc0_stg3_0)
      (Memref.isWhole_whole _) (Memref.whole cc0_stg4_0) (Memref.isWhole_whole _) (Memref.whole cc0_scratch0) (Memref.isWhole_whole _) (Memref.whole cc0_scratch1) (Memref.isWhole_whole _) cc0_scratch2 cc0_scratch3 c v q a b e g i j l =
      recvP 0 v (fwdP 0 c (ldP 0 0 fun kk => ldP 0 1 fun vv => .ret ⟨k0_pay6 a b e g i j l, k0_pay7 vv, k0_pay8 q a b e g i j l kk⟩)) := by
  rw [k0_part15_eq_skeleton]; rfl

theorem part16 (c : Dev nD) (v : BitVec 32) (q : FVec F S1024x1024 .bf16) (x : FVec F S1024x128 .bf16) (s : FVec F S1024x1024 .f32) :
    k0_part16 (F := F) (Memref.whole cc0_stg0_0) (Memref.isWhole_whole _) (Memref.whole cc0_stg1_0) (Memref.isWhole_whole _) (Memref.whole cc0_stg2_0) (Memref.isWhole_whole _) (Memref.whole cc0_stg3_0)
      (Memref.isWhole_whole _) (Memref.whole cc0_stg4_0) (Memref.isWhole_whole _) (Memref.whole cc0_scratch0) (Memref.isWhole_whole _) (Memref.whole cc0_scratch1) (Memref.isWhole_whole _) cc0_scratch2 cc0_scratch3 c v q x s =
      colP 0 (k0_pay9 x s) (recvP 1 v (fwdP 1 c (ldP 1 0 fun kk => ldP 1 1 fun vv => .ret ⟨k0_pay10 vv, k0_pay11 q kk⟩))) := by
  rw [k0_part16_eq_skeleton]; rfl

theorem part17 (c : Dev nD) (v : BitVec 32) (q : FVec F S1024x1024 .bf16) (m : IVec S1024x1024 1) (x : FVec F S1024x128 .bf16) (s : FVec F S1024x1024 .f32) :
    k0_part17 (F := F) (Memref.whole cc0_stg0_0) (Memref.isWhole_whole _) (Memref.whole cc0_stg1_0) (Memref.isWhole_whole _) (Memref.whole cc0_stg2_0) (Memref.isWhole_whole _) (Memref.whole cc0_stg3_0)
      (Memref.isWhole_whole _) (Memref.whole cc0_stg4_0) (Memref.isWhole_whole _) (Memref.whole cc0_scratch0) (Memref.isWhole_whole _) (Memref.whole cc0_scratch1) (Memref.isWhole_whole _) cc0_scratch2 cc0_scratch3 c v q m x s =
      colP 1 (k0_pay12 m x s) (recvP 2 v (fwdP 2 c (ldP 2 0 fun kk => ldP 2 1 fun vv =>
      .ret ⟨k0_pay13 kk, k0_pay14 vv, k0_pay15 q, constant S1024x1024 .f32 0x00000000#32⟩))) := by
  rw [k0_part17_eq_skeleton]; rfl

theorem part18 (c : Dev nD) (v : BitVec 32) (m : IVec S1024x1024 1) (x y z : FVec F S1024x128 .bf16) (s : FVec F S1024x1024 .f32) :
    k0_part18 (F := F) (Memref.whole cc0_stg0_0) (Memref.isWhole_whole _) (Memref.whole cc0_stg1_0) (Memref.isWhole_whole _) (Memref.whole cc0_stg2_0) (Memref.isWhole_whole _) (Memref.whole cc0_stg3_0)
      (Memref.isWhole_whole _) (Memref.whole cc0_stg4_0) (Memref.isWhole_whole _) (Memref.whole cc0_scratch0) (Memref.isWhole_whole _) (Memref.whole cc0_scratch1) (Memref.isWhole_whole _) cc0_scratch2 cc0_scratch3 c v m x y z s =
      colP 2 (k0_pay16 m x y z s) (recvP 3 v (fwdP 3 c (ldP 3 0 fun kk => .ret (k0_pay17 kk)))) := by
  rw [k0_part18_eq_skeleton]; rfl

theorem part19 (c : Dev nD) (v : BitVec 32) (q : FVec F S1024x1024 .bf16) (m : IVec S1024x1024 1) (x : FVec F S1024x128 .bf16) :
    k0_part19 (F := F) (Memref.whole cc0_stg0_0) (Memref.isWhole_whole _) (Memref.whole cc0_stg1_0) (Memref.isWhole_whole _) (Memref.whole cc0_stg2_0) (Memref.isWhole_whole _) (Memref.whole cc0_stg3_0)
      (Memref.isWhole_whole _) (Memref.whole cc0_stg4_0) (Memref.isWhole_whole _) (Memref.whole cc0_scratch0) (Memref.isWhole_whole _) (Memref.whole cc0_scratch1) (Memref.isWhole_whole _) cc0_scratch2 cc0_scratch3 c v q m x =
      ldP 3 1 fun vv => colP 3 (k0_pay18 q m x vv) (recvP 4 v (fwdP 4 c (ldP 4 0 fun kk => .ret (k0_pay19 kk)))) := by
  rw [k0_part19_eq_skeleton]; rfl

theorem part20 (c : Dev nD) (v : BitVec 32) (q : FVec F S1024x1024 .bf16) (m : IVec S1024x1024 1) (x : FVec F S1024x128 .bf16) :
    k0_part20 (F := F) (Memref.whole cc0_stg0_0) (Memref.isWhole_whole _) (Memref.whole cc0_stg1_0) (Memref.isWhole_whole _) (Memref.whole cc0_stg2_0) (Memref.isWhole_whole _) (Memref.whole cc0_stg3_0)
      (Memref.isWhole_whole _) (Memref.whole cc0_stg4_0) (Memref.isWhole_whole _) (Memref.whole cc0_scratch0) (Memref.isWhole_whole _) (Memref.whole cc0_scratch1) (Memref.isWhole_whole _) cc0_scratch2 cc0_scratch3 c v q m x =
      ldP 4 1 fun vv => colP 4 (k0_pay20 q m x vv) (recvP 5 v (fwdP 5 c (.ret ⟨⟩))) := by
  rw [k0_part20_eq_skeleton]; rfl

theorem part21 (v : BitVec 32) (q : FVec F S1024x1024 .bf16) (m : IVec S1024x1024 1) :
    k0_part21 (F := F) (Memref.whole cc0_stg0_0) (Memref.isWhole_whole _) (Memref.whole cc0_stg1_0) (Memref.isWhole_whole _) (Memref.whole cc0_stg2_0) (Memref.isWhole_whole _) (Memref.whole cc0_stg3_0)
      (Memref.isWhole_whole _) (Memref.whole cc0_stg4_0) (Memref.isWhole_whole _) (Memref.whole cc0_scratch0) (Memref.isWhole_whole _) (Memref.whole cc0_scratch1) (Memref.isWhole_whole _) cc0_scratch2 cc0_scratch3 v q m =
      ldP 5 0 fun kk => ldP 5 1 fun vv => colP 5 (k0_pay21 q m kk vv) (recvP 6 v (.ret ⟨Scalar.extui (Scalar.cmpi .eq v 1#32), 0#32⟩)) := by
  rw [k0_part21_eq_skeleton]; rfl

theorem part22 (c : Dev nD) (v : BitVec 32) (q : FVec F S1024x1024 .bf16) (m : IVec S1024x1024 1) (a b : BitVec 32) :
    k0_part22 (F := F) (Memref.whole cc0_stg0_0) (Memref.isWhole_whole _) (Memref.whole cc0_stg1_0) (Memref.isWhole_whole _) (Memref.whole cc0_stg2_0) (Memref.isWhole_whole _) (Memref.whole cc0_stg3_0)
      (Memref.isWhole_whole _) (Memref.whole cc0_stg4_0) (Memref.isWhole_whole _) (Memref.whole cc0_scratch0) (Memref.isWhole_whole _) (Memref.whole cc0_scratch1) (Memref.isWhole_whole _) cc0_scratch2 cc0_scratch3 c v q m a b =
      fwdP 6 c (ldP 6 0 fun kk => ldP 6 1 fun vv => colP 6 (k0_pay22 q m kk vv) (recvP 7 v (.ret (Scalar.extui (Scalar.cmpi .eq v 1#32))))) := by
  rw [k0_part22_eq_skeleton]; rfl

theorem part23 (c : Dev nD) (q : FVec F S1024x1024 .bf16) (m : IVec S1024x1024 1) (a : BitVec 32) :
    k0_part23 (F := F) (Memref.whole cc0_stg0_0) (Memref.isWhole_whole _) (Memref.whole cc0_stg1_0) (Memref.isWhole_whole _) (Memref.whole cc0_stg2_0) (Memref.isWhole_whole _) (Memref.whole cc0_stg3_0)
      (Memref.isWhole_whole _) (Memref.whole cc0_stg4_0) (Memref.isWhole_whole _) (Memref.whole cc0_scratch0) (Memref.isWhole_whole _) (Memref.whole cc0_scratch1) (Memref.isWhole_whole _) cc0_scratch2 cc0_scratch3 c q m a =
      fwdP 7 c (ldP 7 0 fun kk => ldP 7 1 fun vv => colP 7 (k0_pay23 q m kk vv) (readP fun w => .ret w)) := by
  rw [k0_part23_eq_skeleton]; rfl

theorem part24 (v : BitVec 32) (w : FVec F S1024x1024 .f32) :
    k0_part24 (F := F) (Memref.whole cc0_stg0_0) (Memref.isWhole_whole _) (Memref.whole cc0_stg1_0) (Memref.isWhole_whole _) (Memref.whole cc0_stg2_0) (Memref.isWhole_whole _) (Memref.whole cc0_stg3_0)
      (Memref.isWhole_whole _) (Memref.whole cc0_stg4_0) (Memref.isWhole_whole _) (Memref.whole cc0_scratch0) (Memref.isWhole_whole _) (Memref.whole cc0_scratch1) (Memref.isWhole_whole _) cc0_scratch2 cc0_scratch3 v w =
      writeP w (.ret (Scalar.extui (Scalar.cmpi .eq v 0#32))) := by
  rw [k0_part24_eq_skeleton]; rfl

theorem part25 (v : BitVec 32) (a : BitVec 32) :
    k0_part25 (F := F) (Memref.whole cc0_stg0_0) (Memref.isWhole_whole _) (Memref.whole cc0_stg1_0) (Memref.isWhole_whole _) (Memref.whole cc0_stg2_0) (Memref.isWhole_whole _) (Memref.whole cc0_stg3_0)
      (Memref.isWhole_whole _) (Memref.whole cc0_stg4_0) (Memref.isWhole_whole _) (Memref.whole cc0_scratch0) (Memref.isWhole_whole _) (Memref.whole cc0_scratch1) (Memref.isWhole_whole _) cc0_scratch2 cc0_scratch3 v a =
      gone0P a (.ret (Scalar.extui (Scalar.cmpi .eq v 1#32))) := by
  rw [k0_part25_eq_skeleton]; unfold k0_part25_skel; simp only [part6, part7, part8, part9, gone_bind, ret_bind]; rfl

/-- The printed body on its memrefs. -/
theorem body_eq : cc0__body (F := F) (Memref.whole cc0_stg0_0) (Memref.isWhole_whole _) (Memref.whole cc0_stg1_0) (Memref.isWhole_whole _) (Memref.whole cc0_stg2_0) (Memref.isWhole_whole _) (Memref.whole cc0_stg3_0)
      (Memref.isWhole_whole _) (Memref.whole cc0_stg4_0) (Memref.isWhole_whole _) (Memref.whole cc0_scratch0) (Memref.isWhole_whole _) (Memref.whole cc0_scratch1) (Memref.isWhole_whole _) cc0_scratch2 cc0_scratch3 = bodyP := by
  rw [cc0__body_eq_skeleton]; unfold cc0__body_skel
  simp only [part12, part13, part14, part15, part16, part17, part18, part19, part20, part21, part22, part23, part24, part25, part10, part11,
    shakeP_bind, bcastP_bind, queryP_bind, recvP_bind, fwdP_bind, ldP_bind, colP_bind, readP_bind, writeP_bind, gone0P_bind, gone_bind, op_bind, ret_bind]
  rfl

end Cert.KernelIdeal.Pf

end
-- ==== Proof.Entry.lean ====
/-
The entry handshake and the broadcast: from what a device holds at launch to every head pending.
-/
module

public import proofs.«01_k».proof.Proof.Form

@[expose] public section

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable {α : Type} {Q : α → sProp (MT nD τ sig Unit (Elt F) ℕ UU ℕ)}

/-! ## Head after head -/

/-- A loop over the heads: each step turns its head's assertion, and carries one that counts the heads done. -/
theorem wp_loop (c : Dev nD) (C : sProp 𝕄) [BI.Persistent C] (step : Fin 8 → TP (F := F) α → TP (F := F) α) (A B : Fin 8 → sProp 𝕄) (R : ℕ → sProp 𝕄)
    (hs : ∀ h k, iprop(C ∗ A h ∗ R h.val) ⊢ iprop(((B h ∗ R (h.val + 1)) -∗ WP c k Q) -∗ WP c (step h k) Q)) :
    ∀ (m : ℕ) (hm : m ≤ 8) (k : TP (F := F) α),
      iprop(C ∗ (bigSep Finset.univ fun h : Fin 8 => if h.val < 8 - m then B h else A h) ∗ R (8 - m))
        ⊢ iprop(((bigSep Finset.univ B ∗ R 8) -∗ WP c k Q) -∗ WP c (loopP step m hm k) Q) := by
  intro m
  induction m with
  | zero =>
    intro hm k
    rw [bigSep_congr (s := Finset.univ) (fun (h : Fin 8) _ => (if_pos h.isLt : (if h.val < 8 - 0 then B h else A h) = B h))]
    iintro ⟨-, HB, HR⟩ Hk
    iapply Hk; isplitl [HB] <;> iassumption
  | succ m ih =>
    intro hm k
    have hup := bigSep_univ_update (Φ := fun h : Fin 8 => if h.val < 8 - (m + 1) then B h else A h) (Ψ := fun h : Fin 8 => if h.val < 8 - m then B h else A h)
      ⟨8 - (m + 1), by omega⟩ (fun j hj => by
        have hj' : j.val ≠ 8 - (m + 1) := fun h => hj (Fin.ext h)
        by_cases h : j.val < 8 - (m + 1)
        · rw [if_pos h, if_pos (by omega)]
        · rw [if_neg h, if_neg (by omega)])
    rw [if_neg (Nat.lt_irrefl _), if_pos (show 8 - (m + 1) < 8 - m by omega)] at hup
    have hstep := hs ⟨8 - (m + 1), by omega⟩ (loopP step m (by omega) k)
    rw [show (⟨8 - (m + 1), by omega⟩ : Fin 8).val + 1 = 8 - m from (by show 8 - (m + 1) + 1 = 8 - m; omega)] at hstep
    unfold loopP
    iintro ⟨#HC, HA, HR⟩ Hk
    ihave HH := hup $$ HA
    icases HH with ⟨HA, Hback⟩
    iapply hstep $$ [HA HR]
    · isplitr; · iexact HC
      isplitl [HA] <;> iassumption
    iintro ⟨HB, HR⟩
    have hm' : m ≤ 8 := Nat.le_of_succ_le hm
    iapply (ih hm' k) $$ [HB HR Hback]
    · isplitr; · iexact HC
      isplitr [HR]; · iapply Hback; iexact HB
      iexact HR
    iexact Hk

theorem wp_heads (c : Dev nD) (C : sProp 𝕄) [BI.Persistent C] (step : Fin 8 → TP (F := F) α → TP (F := F) α) (A B : Fin 8 → sProp 𝕄) (R : ℕ → sProp 𝕄)
    (hs : ∀ h k, iprop(C ∗ A h ∗ R h.val) ⊢ iprop(((B h ∗ R (h.val + 1)) -∗ WP c k Q) -∗ WP c (step h k) Q)) (k : TP (F := F) α) :
    iprop(C ∗ bigSep Finset.univ A ∗ R 0) ⊢ iprop(((bigSep Finset.univ B ∗ R 8) -∗ WP c k Q) -∗ WP c (loopP step 8 (Nat.le_refl 8) k) Q) := by
  have h := wp_loop c C step A B R hs 8 (Nat.le_refl 8) k
  rwa [bigSep_congr (s := Finset.univ) (fun (h : Fin 8) _ => (if_neg (Nat.not_lt_zero _) : (if h.val < 8 - 8 then B h else A h) = A h))] at h

/-! ## The handshake -/

variable (KV : (cc0_scratch0 : Ref sig .tc).ty.Contents (Elt F)) (κ : GSem nD τ sig → ℕ)

/-- The whole landing buffer of a device, at any contents. -/
def CB (c : Dev nD) : sProp 𝕄 := iprop(∃ f : (cc0_scratch0 : Ref sig .tc).ty.Contents (Elt F), ((c : Thread nD τ).loc cc0_scratch0) ↦{fullShare} f)

/-- The position on the barrier cell. -/
abbrev BP (c : Dev nD) (r : ℕ) : sProp 𝕄 := atPos ER (barCell c) r ∅ 0

/-- All barrier cells are open. -/
def BR : sProp 𝕄 := bigSep Finset.univ fun c : Dev nD => reached ER (barCell c) 0
instance BR_persistent : BI.Persistent (BR (F := F)) := by unfold BR; infer_instance
omit [FloatOps F] [Named F] in
theorem br_elim (c : Dev nD) : BR (F := F) ⊢ reached ER (barCell c) 0 := by unfold BR; exact bigSep_elim (Finset.mem_univ c)

/-- What a device brings to the handshake: the credit it waits for, the duty it pays. -/
def BarTok (c : Dev nD) : sProp 𝕄 :=
  if c = 0 then cred (tallyAt (barCell 0) () 2)
  else if c = 1 then iprop(cred (tallyAt (barCell 1) () 1) ∗ dutyTok ER (barCell 0) 0 1)
  else if c = 2 then dutyTok ER (barCell 1) 0 2 else dutyTok ER (barCell 0) 0 3

def barR (c : Dev nD) : ℕ := if c = 0 ∨ c = 1 then 1 else 0

/-- A device enters: it pays its duty with its own landing slots. -/
theorem wp_enter {c tgt n : Dev nD} (hn : n = tgt) (d : Fin 4) (hd : d ∈ barD tgt) (O : CellTallies nD τ sig Unit) {k : PUnit → TP (F := F) α} :
    iprop(inv KV κ (barCell tgt) ∗ OW c (O + tallyAt (barCell tgt) () 1) ∗ dutyTok ER (barCell tgt) 0 d ∗ barPay d ∗ reached ER (barCell tgt) 0)
      ⊢ iprop((OW c O -∗ WP c (k ⟨⟩) Q) -∗ WP c (.op (.semSignal (n : Thread nD τ) barS ((1 : ℕ) : ℤ)) k) Q) := by
  subst hn
  unfold OW
  iintro ⟨#HI, ⟨%W, HO⟩, Ht, Hp, #Hr⟩ Hk
  iapply (Rounds.wp_signal Variants.none ER (Rd (F := F) KV) (c : Thread nD τ) none (dst := (n : Thread nD τ)) (κ := κ (barCell n))
      (d := d) (by rw [duties_bar]; exact hd) (amount_bar KV n d) () O rfl (W := W)) $$ [HO Ht Hp]
  · isplitr; · iexact HI
    isplitl [HO]; · iexact HO
    isplitl [Ht]; · iexact Ht
    isplitl [Hp]; · iapply (Entails.of_eq (payload_bar KV n d).symm); iexact Hp
    iexact Hr
  iintro HO
  iapply Hk
  iexists W; iexact HO

/-- A device waits until those it sends to have entered. -/
theorem wp_await {c : Dev nD} {n : ℕ} (hn : (Rd (F := F) KV).expect (barCell c) 0 = n) {O : CellTallies nD τ sig Unit} (hO : Above 1 O) {P : sProp 𝕄}
    (hP : bigSep ((Rd (F := F) KV).duties (barCell c) 0 \ ∅) (fun d => (Rd (F := F) KV).payload (barCell c) 0 d) = P) {k : PUnit → TP (F := F) α} :
    iprop(inv KV κ (barCell c) ∗ levAts L lv ∗ cred (tallyAt (barCell c) () n) ∗ OW c O ∗ BP c 0)
      ⊢ iprop(((OW c O ∗ BP c 1 ∗ P) -∗ WP c (k ⟨⟩) Q) -∗ WP c (.op (.semWait barS (n : ℤ)) k) Q) := by
  unfold OW
  iintro ⟨#HI, #Hlev, Hc, ⟨%W, HO⟩, Hat⟩ Hk
  iapply (Rounds.wp_wait_rest_token Variants.none ER (Rd (F := F) KV) (c : Thread nD τ) none (w := .semWait barS (n : ℤ)) (κ := κ (barCell c))
      (wpE_semWait_eq Variants.none (c : Thread nD τ) none Set.univ) (Set.mem_univ _) () (O := O) (W := W) (R := 0) (m := 0) (T := ∅)
      ((Nat.zero_add _).trans hn.symm)) $$ [Hc HO Hat]
  · isplitr; · iexact HI
    isplitl [Hc]; · iexact Hc
    isplitl [HO]; · iexact HO
    isplitr; · iapply (mayWait_of (F := F) (Nat.le_refl 1) hO); iexact Hlev
    iexact Hat
  iintro ⟨HO, Hat, -, Hpay⟩
  ihave Hp := (Entails.of_eq hP) $$ Hpay
  iapply Hk
  isplitl [HO]; · iexists _; iexact HO
  isplitl [Hat] <;> iassumption

omit [FloatOps F] [Named F] in
/-- A device's landing buffer, handed over slot by slot. -/
theorem bar_pay (c : Dev nD) : iprop(Ctx KV κ c ∗ CB c) ⊢ (barPay c : sProp 𝕄) := by
  unfold CB barPay
  iintro ⟨#HC, ⟨%f, H⟩⟩
  ihave Hs := (Entails.of_eq (slots_split c fullShare f)) $$ H
  iapply (bigSep_with_persistent (R := Ctx KV κ c) (Φ := fun h => slotPts c h fullShare f) (fun h _ => (by
    iintro ⟨#HC, H⟩
    isplitl [H]; · iexists f; iexact H
    iapply (ctx_open KV κ c); iexact HC)))
  isplitr <;> iassumption

theorem shake0 (k : TP (F := F) α) : shakeP 0 k = .op (.semWait barS ((2 : ℕ) : ℤ)) fun _ => k := by
  unfold shakeP; rw [dif_neg (by decide), dif_neg (by decide), if_pos (by decide), if_neg (by decide)]
theorem shake1 (k : TP (F := F) α) : shakeP 1 k = .op (.semSignal (((⟨k0_dev1, k0_dev1_lt 1 (by decide)⟩ : Dev nD) : Thread nD τ)) barS ((1 : ℕ) : ℤ)) fun _ =>
    .op (.semWait barS ((1 : ℕ) : ℤ)) fun _ => k := by
  unfold shakeP; rw [dif_pos (by decide), dif_neg (by decide), if_neg (by decide), if_pos (by decide)]
theorem shake2 (k : TP (F := F) α) : shakeP 2 k = .op (.semSignal (((⟨k0_dev2, k0_dev2_lt 2 (by decide)⟩ : Dev nD) : Thread nD τ)) barS ((1 : ℕ) : ℤ)) fun _ => k := by
  unfold shakeP; rw [dif_neg (by decide), dif_pos (by decide), if_neg (by decide), if_neg (by decide)]
theorem shake3 (k : TP (F := F) α) : shakeP 3 k = .op (.semSignal (((⟨k0_dev1, k0_dev1_lt 3 (by decide)⟩ : Dev nD) : Thread nD τ)) barS ((1 : ℕ) : ℤ)) fun _ => k := by
  unfold shakeP; rw [dif_pos (by decide), dif_neg (by decide), if_neg (by decide), if_neg (by decide)]

/-! ## The broadcast -/

/-- The duties and credits of a head that a device is given at launch. -/
def Tok (c : Dev nD) (h : Fin 8) : sProp 𝕄 :=
  if c = 0 then iprop(dutyTok ER (xcell 0 0 h) 0 0 ∗ dutyTok ER (xcell 1 2 h) 0 0 ∗ dutyTok ER (xcell 0 1 h) 0 0 ∗ dutyTok ER (xcell 3 2 h) 0 0)
  else iprop(crd c 2 h ∗ if c = 1 then iprop(dutyTok ER (xcell 1 0 h) 0 1 ∗ dutyTok ER (xcell 2 2 h) 0 1) else iprop(emp))

def AP3 (c : Dev nD) (h : Fin 8) : sProp 𝕄 := iprop(AP c 0 h 0 ∗ AP c 1 h 0 ∗ AP c 2 h 0)

/-- The slot of a receiver that has entered. -/
abbrev Slot (c : Dev nD) (h : Fin 8) : sProp 𝕄 := iprop((∃ f, slotPts (F := F) c h fullShare f) ∗ reached ER (xcell c 2 h) 0)

/-- Device 0's landing buffer, whole, at contents `f`. -/
abbrev comm0 (f : (cc0_scratch0 : Ref sig .tc).ty.Contents (Elt F)) : sProp 𝕄 := ((0 : Dev nD) : Thread nD τ).loc cc0_scratch0 ↦{fullShare} f
abbrev kv0 (g : (cc0_stg2_0 : Ref sig .tc).ty.Contents (Elt F)) : sProp 𝕄 := ((0 : Dev nD) : Thread nD τ).loc cc0_stg2_0 ↦{fullShare} g

theorem hz4 : (![0, 0, 0, 0] : Fin 4 → Nat) = fun _ => 0 := by decide

/-- Device 0 copies its staged keys and values into its landing buffer. -/
theorem wp_fill (g : (cc0_stg2_0 : Ref sig .tc).ty.Contents (Elt F)) (hg : KV = k0_pay1 g) (k : TP (F := F) α) :
    iprop(kv0 g ∗ CB 0) ⊢ iprop(((kv0 g ∗ comm0 KV) -∗ WP 0 k Q) -∗ WP 0 (fillP k) Q) := by
  unfold fillP CB
  iintro ⟨Hkv, %f, Hc⟩ Hk
  iapply (wp_load Variants.none ((0 : Dev nD) : Thread nD τ) none Set.univ (m := kvM) (Finset.subset_univ _)) $$ Hkv; iintro Hkv
  rw [show kvM.view.readAt (Elt F) fullR.toLoadRect g = g from Memref.readAt_unit_zero (Elt F) cc0_stg2_0 hz4 _ g]
  iapply (wp_load Variants.none ((0 : Dev nD) : Thread nD τ) none Set.univ (m := commM) (Finset.subset_univ _)) $$ Hc; iintro Hc
  iapply (wp_store Variants.none ((0 : Dev nD) : Thread nD τ) none Set.univ (m := commM) (r := fullR) (Mk := Finset.univ) (Finset.subset_univ _)) $$ Hc; iintro Hc
  rw [show (commM.access fullR).write (Elt F) f (k0_pay1 g) Finset.univ = KV from (Memref.write_access_unit_zero_univ (Elt F) cc0_scratch0 hz4 _ f (k0_pay1 g)).trans hg.symm]
  iapply Hk; isplitl [Hkv] <;> iassumption

/-- Device 0 sends a head's slot to devices 1 and 3, keeping half of it. -/
theorem wp_send (hc : k0_cond5 (0 : Dev nD) = 1#1) (h : Fin 8) (k : TP (F := F) α) :
    iprop(Ctx KV κ 0 ∗ ((Slot 1 h ∗ Slot 3 h) ∗ slotPts 0 h fullShare KV ∗ Tok 0 h ∗ AP3 0 h) ∗ OW 0 (rem 1 h.val + rem 3 h.val))
      ⊢ iprop(((Head0 KV h ∗ OW 0 (rem 1 (h.val + 1) + rem 3 (h.val + 1))) -∗ WP 0 k Q) -∗ WP 0 (sendP 0 hc h k) Q) := by
  unfold sendP Tok AP3 Head0
  rw [if_pos (rfl : (0 : Dev nD) = 0), rem_peel 1 h, rem_peel 3 h,
    show rem 1 (h.val + 1) + tallyAt (xcell 1 2 h) () N + (rem 3 (h.val + 1) + tallyAt (xcell 3 2 h) () N)
      = (rem 1 (h.val + 1) + rem 3 (h.val + 1) + tallyAt (xcell 3 2 h) () N) + tallyAt (xcell 1 2 h) () N by abel]
  iintro ⟨#HC, ⟨⟨⟨H1, #Hr1⟩, ⟨H3, #Hr3⟩⟩, Hs, ⟨Ht1, Ht2, Ht3, Ht4⟩, HA⟩, HO⟩ Hk
  ihave Hss := ((slot_share 0 h fullShare KV).1) $$ Hs
  icases Hss with ⟨HsL, HsR⟩
  ihave Hss := ((slot_share 0 h fullShare.right KV).1) $$ HsR
  icases Hss with ⟨HsRL, HsRR⟩
  iapply (wp_slotSend KV κ (c := 0) (c' := 1) (n := ⟨k0_dev3, k0_dev3_lt 0 hc⟩) rfl (t := 0) (by decide) (h := h) (d := 0) (by decide) (by decide)
      (rem 1 (h.val + 1) + rem 3 (h.val + 1) + tallyAt (xcell 3 2 h) () N)) $$ [HsRL H1 HO Ht1 Ht2]
  · isplitr; · iapply (inv_x KV κ 0); iexact HC
    isplitr; · iapply (inv_x KV κ 0); iexact HC
    isplitl [HsRL]; · iexact HsRL
    isplitl [H1]; · iexact H1
    isplitl [HO]; · iexact HO
    isplitl [Ht1]; · iexact Ht1
    isplitr; · iapply (ctx_open KV κ 0); iexact HC
    isplitl [Ht2]; · iexact Ht2
    iexact Hr1
  iintro ⟨Hc1, HO⟩
  iapply (wp_slotSend KV κ (c := 0) (c' := 3) (n := ⟨k0_dev4, k0_dev4_lt 0 hc⟩) rfl (t := 1) (by decide) (h := h) (d := 0) (by decide) (by decide)
      (rem 1 (h.val + 1) + rem 3 (h.val + 1))) $$ [HsRR H3 HO Ht3 Ht4]
  · isplitr; · iapply (inv_x KV κ 0); iexact HC
    isplitr; · iapply (inv_x KV κ 0); iexact HC
    isplitl [HsRR]; · iexact HsRR
    isplitl [H3]; · iexact H3
    isplitl [HO]; · iexact HO
    isplitl [Ht3]; · iexact Ht3
    isplitr; · iapply (ctx_open KV κ 0); iexact HC
    isplitl [Ht4]; · iexact Ht4
    iexact Hr3
  iintro ⟨Hc2, HO⟩
  iapply Hk
  isplitr [HO]
  · isplitl [HsL]; · iexact HsL
    isplitl [Hc1]; · iexact Hc1
    isplitl [Hc2]; · iexact Hc2
    iexact HA
  iexact HO

/-! ## From launch to every head pending -/

theorem dev_cases : ∀ c : Dev nD, c = 0 ∨ c = 1 ∨ c = 2 ∨ c = 3 := by decide

/-- What a device brings into the kernel, the staged blocks apart. -/
def Start (c : Dev nD) : sProp 𝕄 :=
  iprop(BR ∗ BP c 0 ∗ BarTok c ∗ CB c ∗ (bigSep Finset.univ fun h : Fin 8 => iprop(Tok c h ∗ AP3 c h)))

theorem bcast_ne {c : Dev nD} (hc : c ≠ 0) (k : TP (F := F) α) : bcastP c k = k := by
  unfold bcastP; exact dif_neg (by revert hc; revert c; decide)

/-- The staged keys and values: device 0's are what every landing buffer is to hold. -/
def KVstg (c : Dev nD) (g : (cc0_stg2_0 : Ref sig .tc).ty.Contents (Elt F)) : sProp 𝕄 := ((c : Thread nD τ).loc cc0_stg2_0) ↦{fullShare} g

omit [FloatOps F] [Named F] in
theorem pend_plain (c : Dev nD) (h0 : c ≠ 0) (h1 : c ≠ 1) : (bigSep Finset.univ fun h : Fin 8 => iprop(Tok c h ∗ AP3 c h)) ⊢ bigSep Finset.univ (Pend KV c) := by
  refine bigSep_mono fun h _ => ?_
  unfold Tok AP3 Pend
  rw [if_neg h0, if_neg h0, if_neg h1, if_neg h1]
  show (_ : sProp 𝕄) ⊢ _
  iintro ⟨⟨Hc, He⟩, HA⟩
  isplitl [Hc]; · iexact Hc
  isplitl [HA] <;> iassumption

theorem wp_entry (c : Dev nD) (g : (cc0_stg2_0 : Ref sig .tc).ty.Contents (Elt F)) (hg : c = 0 → KV = k0_pay1 g) (k : TP (F := F) α) :
    iprop(Ctx KV κ c ∗ Start c ∗ KVstg c g ∗ OW c (O₀ c))
      ⊢ iprop(((bigSep Finset.univ (Pend KV c) ∗ BP c (barR c) ∗ KVstg c g ∗ OW c (Ow c 0)) -∗ WP c k Q) -∗ WP c (shakeP c (bcastP c k)) Q) := by
  rcases dev_cases c with rfl | rfl | rfl | rfl
  · rw [shake0]
    unfold Start BarTok KVstg
    rw [if_pos (rfl : (0 : Dev nD) = 0), show O₀ 0 = rem 1 0 + rem 3 0 from rfl, show barR 0 = 1 from rfl, show Ow 0 0 = 0 from rfl]
    iintro ⟨#HC, ⟨-, Hat, Hcr, Hcb, HT⟩, Hkv, HO⟩ Hk
    iapply (wp_await KV κ (c := 0) (expect_bar0 KV) ((above_rem 1 0).add (above_rem 3 0)) (rest_bar0 KV)) $$ [Hcr HO Hat]
    · isplitr; · iapply (inv_bar KV κ 0); iexact HC
      isplitr; · iapply (ctx_lev KV κ 0); iexact HC
      isplitl [Hcr]; · iexact Hcr
      isplitl [HO] <;> iassumption
    iintro ⟨HO, Hat, H1, H3⟩
    have hc5 : k0_cond5 (0 : Dev nD) = 1#1 := by decide
    unfold bcastP; rw [dif_pos hc5]
    iapply (wp_fill KV g (hg rfl)) $$ [Hkv Hcb]
    · isplitl [Hkv] <;> iassumption
    iintro ⟨Hkv, Hc⟩
    ihave Hs := (Entails.of_eq (slots_split 0 fullShare KV)) $$ Hc
    iapply (wp_heads 0 (Ctx KV κ 0) (sendP 0 hc5) (fun h => iprop((Slot 1 h ∗ Slot 3 h) ∗ slotPts 0 h fullShare KV ∗ Tok 0 h ∗ AP3 0 h)) (Head0 KV)
        (fun n => OW 0 (rem 1 n + rem 3 n)) (fun h k => wp_send KV κ hc5 h k) k) $$ [H1 H3 Hs HT HO]
    · isplitr; · iexact HC
      isplitr [HO]
      · iapply (show iprop((barPay 1 ∗ barPay 3) ∗ (bigSep Finset.univ fun h : Fin 8 => slotPts 0 h fullShare KV) ∗ bigSep Finset.univ fun h : Fin 8 => iprop(Tok 0 h ∗ AP3 0 h))
            ⊢ bigSep Finset.univ fun h : Fin 8 => (iprop((Slot 1 h ∗ Slot 3 h) ∗ slotPts 0 h fullShare KV ∗ Tok 0 h ∗ AP3 0 h) : sProp 𝕄) from by
          unfold barPay; rw [← bigSep_sep', ← bigSep_sep', ← bigSep_sep'])
        isplitl [H1 H3]; · isplitl [H1] <;> iassumption
        isplitl [Hs] <;> iassumption
      iexact HO
    iintro ⟨HB, HO⟩
    rw [rem_last, rem_last, add_zero]
    iapply Hk
    isplitl [HB]
    · rw [show Pend KV 0 = Head0 KV from funext fun h => by unfold Pend; exact if_pos rfl]; iexact HB
    isplitl [Hat]; · iexact Hat
    isplitl [Hkv] <;> iassumption
  · rw [shake1, bcast_ne (by decide)]
    unfold Start BarTok
    rw [if_neg (show ¬ (1 : Dev nD) = 0 by decide), if_pos (rfl : (1 : Dev nD) = 1), show O₀ 1 = rem 2 0 + tallyAt (barCell 0) () 1 from rfl, show barR 1 = 1 from rfl,
      show Ow 1 0 = rem 2 0 from rfl]
    iintro ⟨#HC, ⟨#HB, Hat, ⟨Hcr, Hd⟩, Hcb, HT⟩, Hkv, HO⟩ Hk
    iapply (wp_enter KV κ (c := 1) (tgt := 0) rfl 1 (by decide) (rem 2 0)) $$ [HO Hd Hcb]
    · isplitr; · iapply (inv_bar KV κ 1); iexact HC
      isplitl [HO]; · iexact HO
      isplitl [Hd]; · iexact Hd
      isplitl [Hcb]; · iapply (bar_pay KV κ 1); isplitr <;> iassumption
      iapply (br_elim (F := F) 0); iexact HB
    iintro HO
    iapply (wp_await KV κ (c := 1) (expect_bar1 KV) ((above_rem2 0).mono (by decide)) (rest_bar1 KV)) $$ [Hcr HO Hat]
    · isplitr; · iapply (inv_bar KV κ 1); iexact HC
      isplitr; · iapply (ctx_lev KV κ 1); iexact HC
      isplitl [Hcr]; · iexact Hcr
      isplitl [HO] <;> iassumption
    iintro ⟨HO, Hat, H2⟩
    iapply Hk
    isplitl [HT H2]
    · iapply (show iprop(barPay 2 ∗ bigSep Finset.univ fun h : Fin 8 => iprop(Tok 1 h ∗ AP3 1 h)) ⊢ bigSep Finset.univ (Pend KV 1) from by
        unfold barPay; rw [← bigSep_sep']
        refine bigSep_mono fun h _ => ?_
        unfold Tok AP3 Pend Pass
        rw [if_neg (show ¬ (1 : Dev nD) = 0 by decide), if_neg (show ¬ (1 : Dev nD) = 0 by decide), if_pos (rfl : (1 : Dev nD) = 1), if_pos (rfl : (1 : Dev nD) = 1)]
        show (_ : sProp 𝕄) ⊢ _
        iintro ⟨⟨Hs, Hr⟩, ⟨Hc, Ht1, Ht2⟩, HA⟩
        isplitl [Hc]; · iexact Hc
        isplitl [HA]; · iexact HA
        isplitl [Ht1]; · iexact Ht1
        isplitl [Ht2]; · iexact Ht2
        isplitl [Hs] <;> iassumption)
      isplitl [H2] <;> iassumption
    isplitl [Hat]; · iexact Hat
    isplitl [Hkv] <;> iassumption
  · rw [shake2, bcast_ne (by decide)]
    unfold Start BarTok
    rw [if_neg (show ¬ (2 : Dev nD) = 0 by decide), if_neg (show ¬ (2 : Dev nD) = 1 by decide), if_pos (rfl : (2 : Dev nD) = 2),
      show O₀ 2 = 0 + tallyAt (barCell 1) () 1 from (zero_add _).symm, show barR 2 = 0 from rfl, show Ow 2 0 = 0 from rfl]
    iintro ⟨#HC, ⟨#HB, Hat, Hd, Hcb, HT⟩, Hkv, HO⟩ Hk
    iapply (wp_enter KV κ (c := 2) (tgt := 1) rfl 2 (by decide) 0) $$ [HO Hd Hcb]
    · isplitr; · iapply (inv_bar KV κ 2); iexact HC
      isplitl [HO]; · iexact HO
      isplitl [Hd]; · iexact Hd
      isplitl [Hcb]; · iapply (bar_pay KV κ 2); isplitr <;> iassumption
      iapply (br_elim (F := F) 1); iexact HB
    iintro HO
    iapply Hk
    isplitl [HT]; · iapply (pend_plain KV 2 (by decide) (by decide)); iexact HT
    isplitl [Hat]; · iexact Hat
    isplitl [Hkv] <;> iassumption
  · rw [shake3, bcast_ne (by decide)]
    unfold Start BarTok
    rw [if_neg (show ¬ (3 : Dev nD) = 0 by decide), if_neg (show ¬ (3 : Dev nD) = 1 by decide), if_neg (show ¬ (3 : Dev nD) = 2 by decide),
      show O₀ 3 = 0 + tallyAt (barCell 0) () 1 from (zero_add _).symm, show barR 3 = 0 from rfl, show Ow 3 0 = 0 from rfl]
    iintro ⟨#HC, ⟨#HB, Hat, Hd, Hcb, HT⟩, Hkv, HO⟩ Hk
    iapply (wp_enter KV κ (c := 3) (tgt := 0) rfl 3 (by decide) 0) $$ [HO Hd Hcb]
    · isplitr; · iapply (inv_bar KV κ 3); iexact HC
      isplitl [HO]; · iexact HO
      isplitl [Hd]; · iexact Hd
      isplitl [Hcb]; · iapply (bar_pay KV κ 3); isplitr <;> iassumption
      iapply (br_elim (F := F) 0); iexact HB
    iintro HO
    iapply Hk
    isplitl [HT]; · iapply (pend_plain KV 3 (by decide) (by decide)); iexact HT
    isplitl [Hat]; · iexact Hat
    isplitl [Hkv] <;> iassumption

end Cert.KernelIdeal.Pf

end
-- ==== Proof.Body.lean ====
/-
The whole body on one device: the heads, the output and the departures, after the entry.
-/
module

public import proofs.«01_k».proof.Proof.Entry
public import Idealize.ShloMosaic.Lib.Pipeline.Value

@[expose] public section

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable {α : Type} {Q : α → sProp (MT nD τ sig Unit (Elt F) ℕ UU ℕ)}

/-! ## The context buffer -/

abbrev CtxC : Type := (cc0_scratch1 : Ref sig .tc).ty.Contents (Elt F)

/-- A head's columns stored. -/
def colW (h : Fin 8) (w : FVec F S1024x128 .bf16) (f : CtxC (F := F)) : CtxC (F := F) := (ctxM.access (colR h)).write (Elt F) f w Finset.univ

variable (KV : (cc0_scratch0 : Ref sig .tc).ty.Contents (Elt F)) (κ : GSem nD τ sig → ℕ)

/-- A head's columns, from the queries and the keys and values. -/
def colOf (q : FVec F S1024x1024 .bf16) (h : Fin 8) : FVec F S1024x128 .bf16 := headOut h q msk (kvAt KV h 0) (kvAt KV h 1)

/-- The context buffer after `n` heads. -/
def ctxAfter (q : FVec F S1024x1024 .bf16) (f : CtxC (F := F)) : ℕ → CtxC (F := F)
  | 0 => f
  | n + 1 => if hn : n < 8 then colW ⟨n, hn⟩ (colOf KV q ⟨n, hn⟩) (ctxAfter q f n) else ctxAfter q f n

theorem ctxAfter_succ (q : FVec F S1024x1024 .bf16) (f : CtxC (F := F)) (h : Fin 8) :
    ctxAfter KV q f (h.val + 1) = colW h (colOf KV q h) (ctxAfter KV q f h.val) := dif_pos h.isLt

/-- The head a column belongs to, and the place in its block. -/
def hd (i : S1024x1024.Idx) : Fin 8 := ⟨(i 1).val / 128, by have : (i 1).val < 1024 := (i 1).isLt; omega⟩
def colIx (i : S1024x1024.Idx) : S1024x128.Idx
  | 0 => ⟨(i 0).val, (i 0).isLt⟩
  | 1 => ⟨(i 1).val % 128, Nat.mod_lt _ (by decide)⟩

/-- The context: each head's columns, whatever was there before. -/
def ctxEnd (q : FVec F S1024x1024 .bf16) : CtxC (F := F) := fun i : S1024x1024.Idx => colOf KV q (hd i) (colIx i)

theorem colW_hit (h : Fin 8) (w : FVec F S1024x128 .bf16) (f : CtxC (F := F)) (i : S1024x1024.Idx) (hi : (i 1).val / 128 = h.val) : colW h w f i = w (colIx i) := by
  have e : colW h w f = updateSlice f w ![0, 128 * h.val] ⟨rfl, col_inb h⟩ := View.write_whole_slice_unit cc0_scratch1 _ _ (col_inb h) f w
  rw [e]
  refine (dif_pos ?_).trans (congrArg w ?_)
  · intro a
    have h0 := (i 0).isLt
    fin_cases a
    · exact ⟨Nat.zero_le _, lt_of_lt_of_eq h0 (Nat.zero_add _).symm⟩
    · show 128 * h.val ≤ (i 1).val ∧ (i 1).val < 128 * h.val + 128
      omega
  · funext a
    apply Fin.ext
    fin_cases a
    · rfl
    · show (i 1).val - 128 * h.val = (i 1).val % 128
      omega

theorem colW_miss (h : Fin 8) (w : FVec F S1024x128 .bf16) (f : CtxC (F := F)) (i : S1024x1024.Idx) (hi : (i 1).val / 128 ≠ h.val) : colW h w f i = f i := by
  have e : colW h w f = updateSlice f w ![0, 128 * h.val] ⟨rfl, col_inb h⟩ := View.write_whole_slice_unit cc0_scratch1 _ _ (col_inb h) f w
  rw [e]
  refine dif_neg fun H => ?_
  have h1 : 128 * h.val ≤ (i 1).val ∧ (i 1).val < 128 * h.val + 128 := H 1
  omega

theorem ctxAfter_at (q : FVec F S1024x1024 .bf16) (f : CtxC (F := F)) : ∀ n, n ≤ 8 → ∀ i : S1024x1024.Idx, (i 1).val / 128 < n → ctxAfter KV q f n i = ctxEnd KV q i
  | 0, _, i, hi => absurd hi (Nat.not_lt_zero _)
  | n + 1, hn, i, hi => by
    rw [ctxAfter_succ KV q f ⟨n, hn⟩]
    by_cases h : (i 1).val / 128 = n
    · rw [colW_hit ⟨n, hn⟩ _ _ i h]
      have e : hd i = ⟨n, hn⟩ := Fin.ext h
      show _ = colOf KV q (hd i) (colIx i)
      rw [e]
    · rw [colW_miss ⟨n, hn⟩ _ _ i h]
      exact ctxAfter_at q f n (by omega) i (by omega)

theorem ctxAfter_all (q : FVec F S1024x1024 .bf16) (f : CtxC (F := F)) : ctxAfter KV q f 8 = ctxEnd KV q := by
  funext i
  have hi : ((i : S1024x1024.Idx) 1).val < 1024 := ((i : S1024x1024.Idx) 1).isLt
  exact ctxAfter_at KV q f 8 (Nat.le_refl 8) i (by omega)

/-! ## The heads -/

def ctxPts (c : Dev nD) (f : CtxC (F := F)) : sProp 𝕄 := ((c : Thread nD τ).loc cc0_scratch1) ↦{fullShare} f

theorem wp_col (c : Dev nD) (h : Fin 8) (w : FVec F S1024x128 .bf16) (f : CtxC (F := F)) (k : TP (F := F) α) :
    ctxPts c f ⊢ iprop((ctxPts c (colW h w f) -∗ WP c k Q) -∗ WP c (colP h w k) Q) := by
  unfold colP ctxPts colW
  iintro H Hk
  iapply (wp_load Variants.none (c : Thread nD τ) none Set.univ (m := ctxM) (Finset.subset_univ _)) $$ H; iintro H
  iapply (wp_store Variants.none (c : Thread nD τ) none Set.univ (m := ctxM) (r := colR h) (Mk := Finset.univ) (Finset.subset_univ _)) $$ H; iintro H
  iapply Hk; iexact H

theorem wp_head (c : Dev nD) (q : FVec F S1024x1024 .bf16) (f : CtxC (F := F)) (h : Fin 8) (k : TP (F := F) α) :
    iprop(Ctx KV κ c ∗ Pend KV c h ∗ (OW c (Ow c h.val) ∗ ctxPts c (ctxAfter KV q f h.val)))
      ⊢ iprop(((Done KV c h ∗ (OW c (Ow c (h.val + 1)) ∗ ctxPts c (ctxAfter KV q f (h.val + 1)))) -∗ WP c k Q) -∗ WP c (headP c q h k) Q) := by
  unfold headP
  iintro ⟨#HC, HP, HO, Hx⟩ Hk
  iapply (wp_recv KV κ c h) $$ [HP HO]
  · isplitr; · iexact HC
    isplitl [HP] <;> iassumption
  iintro ⟨HM, HO⟩
  iapply (wp_fwd KV κ c h) $$ [HM HO]
  · isplitr; · iexact HC
    isplitl [HM] <;> iassumption
  iintro ⟨HD, HO⟩
  iapply (wp_ld KV c h 0) $$ HD
  iintro HD
  iapply (wp_ld KV c h 1) $$ HD
  iintro HD
  iapply (wp_col c h) $$ Hx
  iintro Hx
  iapply Hk
  isplitl [HD]; · iexact HD
  isplitl [HO]; · iexact HO
  rw [ctxAfter_succ]
  unfold colOf
  iexact Hx

/-! ## The departures -/

theorem cond_gone0 (c : Dev nD) : (Scalar.cmpi .ne (Scalar.extui (Scalar.cmpi .eq (me c) 0#32) : BitVec 32) 0#32 = 1#1) ↔ c = 0 := by revert c; decide
theorem cond_gone1 (c : Dev nD) : (Scalar.cmpi .ne (Scalar.extui (Scalar.cmpi .eq (me c) 1#32) : BitVec 32) 0#32 = 1#1) ↔ c = 1 := by revert c; decide

omit [FloatOps F] [Named F] in
theorem pay_dep (c : Dev nD) (t : Fin 3) (ht : t.val ≠ 2) (h : Fin 8) : (xPay KV c t.val h : sProp 𝕄) ⊢ slotPts c h (qS c t.val) KV := Entails.of_eq (if_neg ht)

theorem wp_gone_one (c : Dev nD) (t : Fin 3) (ht : t.val ≠ 2) (h : Fin 8) {d : Fin 4} (hd : xD c t.val = {d}) (k : TP (F := F) α) :
    iprop(Ctx KV κ c ∗ (crd c t h ∗ AP c t h 0) ∗ OW c 0) ⊢ iprop(((slotPts c h (qS c t.val) KV ∗ AP c t h 1 ∗ OW c 0) -∗ WP c k Q) -∗ WP c (gone t h k) Q) := by
  unfold gone
  iintro ⟨#HC, ⟨Hc, HA⟩, HO⟩ Hk
  iapply (wp_slotWait KV κ (c := c) (t := t) (h := h) hd (Nat.le_refl _) (above_zero _)) $$ [Hc HO HA]
  · isplitr; · iapply (inv_x KV κ c); iexact HC
    isplitr; · iapply (ctx_lev KV κ c); iexact HC
    isplitl [Hc]; · iexact Hc
    isplitl [HO] <;> iassumption
  iintro ⟨HO, HA, Hs⟩
  iapply Hk
  isplitl [Hs]; · iapply (pay_dep KV c t ht h); iexact Hs
  isplitl [HA] <;> iassumption

theorem wp_gone0 (h : Fin 8) (k : TP (F := F) α) :
    iprop(Ctx KV κ 0 ∗ Done KV 0 h ∗ OW 0 0) ⊢ iprop(((Fini KV 0 h ∗ OW 0 0) -∗ WP 0 k Q) -∗ WP 0 (gone 0 h (gone 1 h k)) Q) := by
  unfold Done Rest Fini qL
  rw [if_pos (rfl : (0 : Dev nD) = 0), if_pos (show (0 : Dev nD) = 0 ∨ (0 : Dev nD) = 1 by decide), show rnd 0 0 = 1 from rfl, show rnd 0 1 = 1 from rfl, show rnd 0 2 = 0 from rfl]
  iintro ⟨#HC, ⟨HsL, Hc0, Hc1, HA0, HA1, HA2⟩, HO⟩ Hk
  iapply (wp_gone_one KV κ 0 0 (by decide) h (d := 0) (by decide)) $$ [Hc0 HA0 HO]
  · isplitr; · iexact HC
    isplitl [Hc0 HA0]; · isplitl [Hc0] <;> iassumption
    iexact HO
  iintro ⟨HsRL, HA0, HO⟩
  iapply (wp_gone_one KV κ 0 1 (by decide) h (d := 0) (by decide)) $$ [Hc1 HA1 HO]
  · isplitr; · iexact HC
    isplitl [Hc1 HA1]; · isplitl [Hc1] <;> iassumption
    iexact HO
  iintro ⟨HsRR, HA1, HO⟩
  iapply Hk
  isplitr [HO]
  · isplitl [HsL HsRL HsRR]
    · iapply ((slot_share 0 h fullShare KV).2)
      isplitl [HsL]; · iexact HsL
      iapply ((slot_share 0 h fullShare.right KV).2)
      isplitl [HsRL]; · iexact HsRL
      iexact HsRR
    isplitl [HA0]; · iexact HA0
    isplitl [HA1] <;> iassumption
  iexact HO

theorem wp_gone1 (h : Fin 8) (k : TP (F := F) α) :
    iprop(Ctx KV κ 1 ∗ Done KV 1 h ∗ OW 1 0) ⊢ iprop(((Fini KV 1 h ∗ OW 1 0) -∗ WP 1 k Q) -∗ WP 1 (gone 0 h k) Q) := by
  unfold Done Rest Fini qL
  rw [if_neg (show ¬ (1 : Dev nD) = 0 by decide), if_pos (rfl : (1 : Dev nD) = 1), if_pos (show (1 : Dev nD) = 0 ∨ (1 : Dev nD) = 1 by decide),
    show rnd 1 0 = 1 from rfl, show rnd 1 1 = 0 from rfl, show rnd 1 2 = 1 from rfl]
  iintro ⟨#HC, ⟨HsL, ⟨HA0, HA1, HA2⟩, Hc⟩, HO⟩ Hk
  iapply (wp_gone_one KV κ 1 0 (by decide) h (d := 1) (by decide)) $$ [Hc HA0 HO]
  · isplitr; · iexact HC
    isplitl [Hc HA0]; · isplitl [Hc] <;> iassumption
    iexact HO
  iintro ⟨HsR, HA0, HO⟩
  iapply Hk
  isplitr [HO]
  · isplitl [HsL HsR]
    · iapply ((slot_share 1 h fullShare KV).2)
      isplitl [HsL]; · iexact HsL
      iexact HsR
    isplitl [HA0]; · iexact HA0
    isplitl [HA1] <;> iassumption
  iexact HO

omit [FloatOps F] [Named F] in
theorem fini_plain (c : Dev nD) (h0 : c ≠ 0) (h1 : c ≠ 1) : bigSep Finset.univ (Done KV c) ⊢ bigSep Finset.univ (Fini KV c) := by
  refine bigSep_mono fun h _ => ?_
  unfold Done Rest Fini qL
  rw [if_neg h0, if_neg h1, if_neg (fun h => h.elim h0 h1), show rnd c 0 = 0 from by revert h0 h1; revert c; decide, show rnd c 1 = 0 from by revert h0 h1; revert c; decide,
    show rnd c 2 = 1 from by revert h0 h1; revert c; decide]
  show (_ : sProp 𝕄) ⊢ _
  iintro ⟨Hs, ⟨HA0, HA1, HA2⟩, -⟩
  isplitl [Hs]; · iexact Hs
  isplitl [HA0]; · iexact HA0
  isplitl [HA1] <;> iassumption

theorem wp_gone (c : Dev nD) (k : TP (F := F) α) :
    iprop(Ctx KV κ c ∗ bigSep Finset.univ (Done KV c) ∗ OW c 0)
      ⊢ iprop(((bigSep Finset.univ (Fini KV c) ∗ OW c 0) -∗ WP c k Q)
        -∗ WP c (gone0P (Scalar.extui (Scalar.cmpi .eq (me c) 0#32)) (gone1P (Scalar.extui (Scalar.cmpi .eq (me c) 1#32)) k)) Q) := by
  unfold gone0P gone1P
  by_cases h0 : c = 0
  · subst h0
    rw [if_pos ((cond_gone0 0).mpr rfl), if_neg (mt (cond_gone1 0).mp (by decide))]
    exact wp_heads 0 (Ctx KV κ 0) (fun h k => gone 0 h (gone 1 h k)) (Done KV 0) (Fini KV 0) (fun _ => OW 0 0) (fun h k => wp_gone0 KV κ h k) k
  rw [if_neg (mt (cond_gone0 c).mp h0)]
  by_cases h1 : c = 1
  · subst h1
    rw [if_pos ((cond_gone1 1).mpr rfl)]
    exact wp_heads 1 (Ctx KV κ 1) (gone 0) (Done KV 1) (Fini KV 1) (fun _ => OW 1 0) (fun h k => wp_gone1 KV κ h k) k
  rw [if_neg (mt (cond_gone1 c).mp h1)]
  iintro ⟨-, HD, HO⟩ Hk
  iapply Hk
  isplitl [HD]; · iapply (fini_plain KV c h0 h1); iexact HD
  iexact HO

/-! ## The body -/

abbrev stg0 (c : Dev nD) (g : (cc0_stg0_0 : Ref sig .tc).ty.Contents (Elt F)) : sProp 𝕄 := ((c : Thread nD τ).loc cc0_stg0_0) ↦{fullShare} g
abbrev stg1 (c : Dev nD) (g : (cc0_stg1_0 : Ref sig .tc).ty.Contents (Elt F)) : sProp 𝕄 := ((c : Thread nD τ).loc cc0_stg1_0) ↦{fullShare} g
abbrev stg3 (c : Dev nD) (g : (cc0_stg3_0 : Ref sig .tc).ty.Contents (Elt F)) : sProp 𝕄 := ((c : Thread nD τ).loc cc0_stg3_0) ↦{fullShare} g
abbrev stg4 (c : Dev nD) (g : (cc0_stg4_0 : Ref sig .tc).ty.Contents (Elt F)) : sProp 𝕄 := ((c : Thread nD τ).loc cc0_stg4_0) ↦{fullShare} g

theorem hz2 : (![0, 0] : Fin 2 → Nat) = fun _ => 0 := by decide

/-- The output: the context times the output weights. -/
def outOf (gx : (cc0_stg0_0 : Ref sig .tc).ty.Contents (Elt F)) (gw : (cc0_stg1_0 : Ref sig .tc).ty.Contents (Elt F)) (go : (cc0_stg3_0 : Ref sig .tc).ty.Contents (Elt F)) :
    (cc0_stg4_0 : Ref sig .tc).ty.Contents (Elt F) := k0_pay24 (ctxEnd KV (k0_pay2 gx gw)) go

theorem wp_dev (c : Dev nD) (k : Dev nD → TP (F := F) α) : WP c (k c) Q ⊢ WP c (.op .deviceId k) Q := by
  simp only [wp_deviceId]; exact BI.Entails.refl _

theorem wp_end (c : Dev nD) (a : α) : iprop(|={Set.univ}=> Q a) ⊢ WP c (.ret a : TP (F := F) α) Q := by
  unfold WP; rw [wp_ret]

theorem wp_body (c : Dev nD) (gx : (cc0_stg0_0 : Ref sig .tc).ty.Contents (Elt F)) (gw : (cc0_stg1_0 : Ref sig .tc).ty.Contents (Elt F))
    (gk : (cc0_stg2_0 : Ref sig .tc).ty.Contents (Elt F)) (go : (cc0_stg3_0 : Ref sig .tc).ty.Contents (Elt F)) (gd : (cc0_stg4_0 : Ref sig .tc).ty.Contents (Elt F))
    (f : CtxC (F := F)) (hg : c = 0 → KV = k0_pay1 gk) (K : PUnit → sProp 𝕄) :
    iprop(Ctx KV κ c ∗ Start c ∗ ctxPts c f ∗ OW c (O₀ c) ∗ stg0 c gx ∗ stg1 c gw ∗ KVstg c gk ∗ stg3 c go ∗ stg4 c gd)
      ⊢ iprop(((bigSep Finset.univ (Fini KV c) ∗ BP c (barR c) ∗ ctxPts c (ctxEnd KV (k0_pay2 gx gw)) ∗ OW c 0 ∗ stg0 c gx ∗ stg1 c gw ∗ KVstg c gk ∗ stg3 c go
          ∗ stg4 c (outOf KV gx gw go)) -∗ |={Set.univ}=> K ⟨⟩) -∗ WP c bodyP K) := by
  unfold bodyP queryP readP writeP
  iintro ⟨#HC, HS, Hx, HO, H0, H1, H2, H3, H4⟩ Hk
  iapply (wp_dev c)
  iapply (wp_entry KV κ c gk hg) $$ [HS H2 HO]
  · isplitr; · iexact HC
    isplitl [HS]; · iexact HS
    isplitl [H2] <;> iassumption
  iintro ⟨HP, HB, H2, HO⟩
  iapply (wp_load Variants.none (c : Thread nD τ) none Set.univ (m := (Memref.whole cc0_stg0_0 : Memref sig .tc .vmem S1024x1024 .bf16)) (Finset.subset_univ _)) $$ H0; iintro H0
  rw [show (Memref.whole cc0_stg0_0 : Memref sig .tc .vmem S1024x1024 .bf16).view.readAt (Elt F) sqR.toLoadRect gx = gx from Memref.readAt_unit_zero (Elt F) cc0_stg0_0 hz2 _ gx]
  iapply (wp_load Variants.none (c : Thread nD τ) none Set.univ (m := (Memref.whole cc0_stg1_0 : Memref sig .tc .vmem S1024x1024 .bf16)) (Finset.subset_univ _)) $$ H1; iintro H1
  rw [show (Memref.whole cc0_stg1_0 : Memref sig .tc .vmem S1024x1024 .bf16).view.readAt (Elt F) sqR.toLoadRect gw = gw from Memref.readAt_unit_zero (Elt F) cc0_stg1_0 hz2 _ gw]
  iapply (wp_heads c (Ctx KV κ c) (headP c (k0_pay2 gx gw)) (Pend KV c) (Done KV c) (fun n => iprop(OW c (Ow c n) ∗ ctxPts c (ctxAfter KV (k0_pay2 gx gw) f n)))
      (fun h k => wp_head KV κ c (k0_pay2 gx gw) f h k)) $$ [HP HO Hx]
  · isplitr; · iexact HC
    isplitl [HP]; · iexact HP
    isplitl [HO]; · iexact HO
    iexact Hx
  rw [Ow_last, ctxAfter_all]
  iintro ⟨HD, HO, Hx⟩
  unfold ctxPts
  iapply (wp_load Variants.none (c : Thread nD τ) none Set.univ (m := ctxM) (Finset.subset_univ _)) $$ Hx; iintro Hx
  rw [show ctxM.view.readAt (Elt F) sqR.toLoadRect (ctxEnd KV (k0_pay2 gx gw)) = ctxEnd KV (k0_pay2 gx gw) from Memref.readAt_unit_zero (Elt F) cc0_scratch1 hz2 _ _]
  iapply (wp_load Variants.none (c : Thread nD τ) none Set.univ (m := (Memref.whole cc0_stg3_0 : Memref sig .tc .vmem S1024x1024 .bf16)) (Finset.subset_univ _)) $$ H3; iintro H3
  rw [show (Memref.whole cc0_stg3_0 : Memref sig .tc .vmem S1024x1024 .bf16).view.readAt (Elt F) sqR.toLoadRect go = go from Memref.readAt_unit_zero (Elt F) cc0_stg3_0 hz2 _ go]
  iapply (wp_load Variants.none (c : Thread nD τ) none Set.univ (m := (Memref.whole cc0_stg4_0 : Memref sig .tc .vmem S1024x1024 .f32)) (Finset.subset_univ _)) $$ H4; iintro H4
  iapply (wp_store Variants.none (c : Thread nD τ) none Set.univ (m := (Memref.whole cc0_stg4_0 : Memref sig .tc .vmem S1024x1024 .f32)) (r := sqR) (Mk := Finset.univ) (Finset.subset_univ _)) $$ H4; iintro H4
  rw [show ((Memref.whole cc0_stg4_0 : Memref sig .tc .vmem S1024x1024 .f32).access sqR).write (Elt F) gd (k0_pay24 (ctxEnd KV (k0_pay2 gx gw)) go) Finset.univ = outOf KV gx gw go
    from Memref.write_access_unit_zero_univ (Elt F) cc0_stg4_0 hz2 _ gd _]
  iapply (wp_gone KV κ c) $$ [HD HO]
  · isplitr; · iexact HC
    isplitl [HD] <;> iassumption
  iintro ⟨HF, HO⟩
  iapply (wp_end c)
  iapply Hk
  isplitl [HF]; · iexact HF
  isplitl [HB]; · iexact HB
  isplitl [Hx]; · iexact Hx
  isplitl [HO]; · iexact HO
  isplitl [H0]; · iexact H0
  isplitl [H1]; · iexact H1
  isplitl [H2]; · iexact H2
  isplitl [H3] <;> iassumption

end Cert.KernelIdeal.Pf

end
-- ==== Proof.Oblig.lean ====
/-
The kernel's region on one device: what it is entered with, what it leaves, and the body obligation.
-/
module

public import proofs.«01_k».proof.Proof.Body
public import proofs.«01_k».proof.Proof.Gen.KernelIdeal.Frame
public import Idealize.ShloMosaic.Lib.Rounds.Family

@[expose] public section

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

open Idealize.ShloMosaic.Pipeline (Dat Cfg Window BodyObligation cellOf)

variable (m : (ℓ : Loc nD τ sig) → Buf (Elt F) ℓ)

/-! ## What the region stages -/

def gX (c : Dev nD) : (cc0_stg0_0 : Ref sig .tc).ty.Contents (Elt F) := ((cfg0.win 0).blk t0_0).view.read (Elt F) (V m c main_v2)
def gW (c : Dev nD) : (cc0_stg1_0 : Ref sig .tc).ty.Contents (Elt F) := ((cfg0.win 1).blk t0_0).view.read (Elt F) (V m c main_v3)
def gK (c : Dev nD) : (cc0_stg2_0 : Ref sig .tc).ty.Contents (Elt F) := ((cfg0.win 2).blk t0_0).view.read (Elt F) (V m c main_v13)
def gO (c : Dev nD) : (cc0_stg3_0 : Ref sig .tc).ty.Contents (Elt F) := ((cfg0.win 3).blk t0_0).view.read (Elt F) (V m c main_v4)

/-- Device 0's keys and values, which every device ends up with. -/
def KV0 : (cc0_scratch0 : Ref sig .tc).ty.Contents (Elt F) := k0_pay1 (gK m 0)

/-- A device's result. -/
def res (c : Dev nD) : (cc0_stg4_0 : Ref sig .tc).ty.Contents (Elt F) := outOf (KV0 m) (gX m c) (gW m c) (gO m c)

/-! ## The invariant -/

/-- The kernel's own semaphores. -/
abbrev osem (p : Fin 3 × Fin 8) : SemLoc sig := .dma (xS p.1 p.2)

/-- The protocol's state on a device before the region, its transfer cells open. -/
def Live (c : Dev nD) : sProp 𝕄 :=
  iprop(∃ κ : GSem nD τ sig → ℕ, Ctx (KV0 m) κ c ∗ BR ∗ BP c 0 ∗ BarTok c ∗ bigSep Finset.univ (fun h : Fin 8 => iprop(Tok c h ∗ AP3 c h)))

def CX (c : Dev nD) : sProp 𝕄 := iprop(∃ f : CtxC (F := F), ctxPts c f)

def Φa (c : Dev nD) : sProp 𝕄 := iprop(Live m c ∗ CB c ∗ CX c)
def Φz (c : Dev nD) : sProp 𝕄 :=
  iprop(semVal (barCell c) 0 ∗ Pipeline.ownSems0 (Ix := Unit) (Name := ℕ) (U := UU) (Lvl := ℕ) (Val := Elt F) (τ := τ) osem c ∗ CB c ∗ CX c)

def dats (_ : Fin 1) (c : Dev nD) : Dat τ (Elt F) Unit ℕ UU ℕ cfg0 c where
  A w := V m c (Pipeline.arrRef spec0 w)
  after w _ := match w with
    | ⟨0, _⟩ => gX m c
    | ⟨1, _⟩ => gW m c
    | ⟨2, _⟩ => gK m c
    | ⟨3, _⟩ => gO m c
    | ⟨4, _⟩ => res m c
  Φ t := match t with
    | ⟨0, _⟩ => Φa m c
    | ⟨_ + 1, _⟩ => Φz c
  q _ := fullShare
  owed t := match t with
    | ⟨0, _⟩ => O₀ c
    | ⟨_ + 1, _⟩ => 0

/-! ## The body's end: the cells close -/

omit [FloatOps F] [Named F] in
theorem rnd_empty (KV : (cc0_scratch0 : Ref sig .tc).ty.Contents (Elt F)) (c : Dev nD) (p : Fin 3 × Fin 8) :
    ∀ r, rnd c p.1 ≤ r → (Rd (F := F) KV).duties (xcell c p.1 p.2) r = ∅ := by
  intro r hr
  unfold rnd at hr
  split at hr
  · next h => exact duties_empty KV (by rw [duties_x]; exact h) r
  · exact duties_later KV _ r hr

omit [FloatOps F] [Named F] in
theorem bar_empty (KV : (cc0_scratch0 : Ref sig .tc).ty.Contents (Elt F)) (c : Dev nD) : ∀ r, barR c ≤ r → (Rd (F := F) KV).duties (barCell c) r = ∅ := by
  intro r hr
  unfold barR at hr
  split at hr
  · exact duties_later KV _ r hr
  · next h => exact duties_empty KV (by rw [duties_bar]; unfold barD; rw [if_neg fun h0 => h (Or.inl h0), if_neg fun h1 => h (Or.inr h1)]) r

omit [FloatOps F] [Named F] in
theorem fin3 (Φ : Fin 3 → sProp 𝕄) : bigSep Finset.univ Φ = iprop(Φ 0 ∗ Φ 1 ∗ Φ 2) := bigSep_univ_eq_bigSepL [0, 1, 2] (by decide) (by decide) Φ

omit [FloatOps F] [Named F] in
/-- A family over rows and heads, by heads. -/
theorem byHead (Ψ : Fin 3 × Fin 8 → sProp 𝕄) : bigSep Finset.univ Ψ = bigSep Finset.univ fun h : Fin 8 => iprop(Ψ (0, h) ∗ Ψ (1, h) ∗ Ψ (2, h)) := by
  rw [bigSep_univ_prod, fin3, bigSep_sep', bigSep_sep']

omit [FloatOps F] [Named F] in
theorem fini_split (KV : (cc0_scratch0 : Ref sig .tc).ty.Contents (Elt F)) (c : Dev nD) :
    bigSep Finset.univ (Fini (F := F) KV c) = iprop((bigSep Finset.univ fun h : Fin 8 => slotPts c h fullShare KV)
      ∗ bigSep Finset.univ fun p : Fin 3 × Fin 8 => AP c p.1 p.2 (rnd c p.1)) := by
  rw [byHead, ← bigSep_sep']; rfl

omit [FloatOps F] [Named F] in
theorem invs_own (KV : (cc0_scratch0 : Ref sig .tc).ty.Contents (Elt F)) (κ : GSem nD τ sig → ℕ) (c : Dev nD) :
    Ctx (F := F) KV κ c ⊢ bigSep Finset.univ fun p : Fin 3 × Fin 8 => inv KV κ (xcell c p.1 p.2) :=
  bigSep_intro_persistent fun p _ => inv_x KV κ c c p.1 p.2

omit [FloatOps F] [Named F] in
/-- After the body every cell of the device is closed, and its landing buffer is whole again. -/
theorem close_all (KV : (cc0_scratch0 : Ref sig .tc).ty.Contents (Elt F)) (κ : GSem nD τ sig → ℕ) (c : Dev nD) :
    iprop(Ctx KV κ c ∗ bigSep Finset.univ (Fini (F := F) KV c) ∗ BP c (barR c))
      ⊢ |={Set.univ}=> iprop(semVal (barCell c) 0 ∗ Pipeline.ownSems0 (Ix := Unit) (Name := ℕ) (U := UU) (Lvl := ℕ) (Val := Elt F) (τ := τ) osem c ∗ CB c) := by
  rw [fini_split]
  iintro ⟨#HC, ⟨Hs, HA⟩, HB⟩
  imod (Rounds.cell_close ER (Rd (F := F) KV) (Set.mem_univ (κ (barCell c))) (fun h => h) (R := barR c) (bar_empty KV c)) $$ [HB] with HzB
  · isplitr; · iapply (inv_bar KV κ c c); iexact HC
    iexact HB
  have hc := Rounds.cells_close ER (Rd (F := F) KV) (Finset.univ : Finset (Fin 3 × Fin 8)) (fun p => xcell c p.1 p.2) (fun p => κ (xcell c p.1 p.2))
    (Es := Set.univ) (fun _ _ => Set.mem_univ _) (fun _ _ h => h) (fun p => rnd c p.1) (fun p _ => rnd_empty KV c p)
  imod hc $$ [HA] with HzX
  · rw [bigSep_sep']
    isplitr; · iapply (invs_own KV κ c); iexact HC
    iexact HA
  imodintro
  isplitl [HzB]; · iexact HzB
  isplitl [HzX]; · unfold Pipeline.ownSems0; iexact HzX
  unfold CB
  iexists KV
  iapply (Entails.of_eq (slots_split c fullShare KV).symm); iexact Hs

/-! ## The body obligation -/

omit [FloatOps F] [Named F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer at given contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φa m c ∗ (dats m 0 c).owesAt () t0_0.castSucc
    ∗ (∃ d, stg c cc0_stg0_0 ((dats m 0 c).before (0 : Fin 5) t0_0 d))
    ∗ (∃ d, stg c cc0_stg1_0 ((dats m 0 c).before (1 : Fin 5) t0_0 d))
    ∗ (∃ d, stg c cc0_stg2_0 ((dats m 0 c).before (2 : Fin 5) t0_0 d))
    ∗ (∃ d, stg c cc0_stg3_0 ((dats m 0 c).before (3 : Fin 5) t0_0 d))
    ∗ (∃ d, stg c cc0_stg4_0 ((dats m 0 c).before (4 : Fin 5) t0_0 d)))

def bodyPost (c : Dev nD) : sProp 𝕄 :=
  iprop(Φz c ∗ (dats m 0 c).owesAt () t0_0.succ
    ∗ stg c cc0_stg0_0 (gX m c) ∗ stg c cc0_stg1_0 (gW m c) ∗ stg c cc0_stg2_0 (gK m c) ∗ stg c cc0_stg3_0 (gO m c) ∗ stg c cc0_stg4_0 (res m c))

theorem before_0 (c : Dev nD) (d) : (dats m 0 c).before (0 : Fin 5) t0_0 d = gX m c := by unfold Dat.before; rw [if_pos (fetch0_0 t0_0)]; rfl
theorem before_1 (c : Dev nD) (d) : (dats m 0 c).before (1 : Fin 5) t0_0 d = gW m c := by unfold Dat.before; rw [if_pos (fetch0_1 t0_0)]; rfl
theorem before_2 (c : Dev nD) (d) : (dats m 0 c).before (2 : Fin 5) t0_0 d = gK m c := by unfold Dat.before; rw [if_pos (fetch0_2 t0_0)]; rfl
theorem before_3 (c : Dev nD) (d) : (dats m 0 c).before (3 : Fin 5) t0_0 d = gO m c := by unfold Dat.before; rw [if_pos (fetch0_3 t0_0)]; rfl

theorem sound_body (c : Dev nD) : bodyPre m c ⊢ WP c bodyP (fun _ => bodyPost m c) := by
  unfold bodyPre Φa Live CX Dat.owesAt Pipeline.owesWithin
  iintro ⟨⟨⟨%κ, #HC, #HR, HB, HT, Hh⟩, Hcb, ⟨%f, Hx⟩⟩, ⟨%W, %hW, HO⟩, ⟨%d0, %g0, %h0, H0⟩, ⟨%d1, %g1, %h1, H1⟩, ⟨%d2, %g2, %h2, H2⟩, ⟨%d3, %g3, %h3, H3⟩, ⟨%d4, %g4, %h4, H4⟩⟩
  rw [before_0] at h0
  rw [before_1] at h1
  rw [before_2] at h2
  rw [before_3] at h3
  subst h0 h1 h2 h3
  iapply (wp_body (KV0 m) κ c (gX m c) (gW m c) (gK m c) (gO m c) g4 f (fun h => by rw [h]; rfl) (fun _ => bodyPost m c)) $$ [HB HT Hh Hcb Hx HO H0 H1 H2 H3 H4]
  · isplitr; · iexact HC
    isplitl [HB HT Hh Hcb]
    · unfold Start
      isplitr; · iexact HR
      isplitl [HB]; · iexact HB
      isplitl [HT]; · iexact HT
      isplitl [Hcb]; · iexact Hcb
      iexact Hh
    isplitl [Hx]; · iexact Hx
    isplitl [HO]; · unfold OW; iexists W; iexact HO
    isplitl [H0]; · unfold stg0; iexact H0
    isplitl [H1]; · unfold stg1; iexact H1
    isplitl [H2]; · unfold KVstg; iexact H2
    isplitl [H3]; · unfold stg3; iexact H3
    unfold stg4; iexact H4
  iintro ⟨HF, HB, Hx, HO, H0, H1, H2, H3, H4⟩
  imod (close_all (KV0 m) κ c) $$ [HF HB] with ⟨Hz, Hos, Hcb⟩
  · isplitr; · iexact HC
    isplitl [HF] <;> iassumption
  imodintro
  unfold bodyPost Φz CX Dat.owesAt Pipeline.owesWithin
  rw [show (dats m 0 c).owed t0_0.succ = 0 from rfl]
  isplitl [Hz Hos Hcb Hx]
  · isplitl [Hz]; · iexact Hz
    isplitl [Hos]; · iexact Hos
    isplitl [Hcb]; · iexact Hcb
    iexists _; iexact Hx
  isplitl [HO]
  · unfold OW
    icases HO with ⟨%W', HO⟩
    iexists W'
    isplitr; · ipureintro; exact fun _ _ => Or.inl trivial
    iexact HO
  isplitl [H0]
  · iexists _; isplitr; swap; (· unfold stg0; iexact H0); ipureintro; rfl
  isplitl [H1]
  · iexists _; isplitr; swap; (· unfold stg1; iexact H1); ipureintro; rfl
  isplitl [H2]
  · iexists _; isplitr; swap; (· unfold KVstg; iexact H2); ipureintro; rfl
  isplitl [H3]
  · iexists _; isplitr; swap; (· unfold stg3; iexact H3); ipureintro; rfl
  iexists _; isplitr; swap; (· unfold stg4; iexact H4); ipureintro; rfl

set_option maxRecDepth 4000 in
/-- The library's body obligation on core `c`. -/
theorem body_obligation (c : Dev nD) : BodyObligation (dats (F := F) m 0 c) (defs₀ (F := F)) Variants.none () Set.univ := fun t => by
  rw [fin_N0 t]
  rw [bigSep_W0, bigSep_W0]
  simp only [owns_whole_eq]
  show bodyPre m c ⊢ wp frame (wpE (defs₀ (F := F)) Variants.none (c : Thread nD τ) none) Set.univ
    (cc0__body (F := F) (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _) (Memref.whole cc0_stg4_0) (Memref.isWhole_whole _)
      (Memref.whole cc0_scratch0) (Memref.isWhole_whole _) (Memref.whole cc0_scratch1) (Memref.isWhole_whole _) cc0_scratch2 cc0_scratch3) (fun _ => bodyPost m c)
  rw [body_eq]
  exact sound_body m c

end Cert.KernelIdeal.Pf

end
-- ==== Proof.Fund.lean ====
/-
The launch: what the cells are funded with, and what each device is dealt.
-/
module

public import proofs.«01_k».proof.Proof.Oblig

@[expose] public section

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## The launch credit -/

theorem xS_inj {t t' : Fin 3} {h h' : Fin 8} (e : xS t h = xS t' h') : t = t' ∧ h = h' := by
  have e' : 5 + 8 * t.val + h.val = 5 + 8 * t'.val + h'.val := congrArg Fin.val e
  have := h.isLt; have := h'.isLt
  exact ⟨Fin.ext (by omega), Fin.ext (by omega)⟩

theorem xcell_inj {c c' : Dev nD} {t t' : Fin 3} {h h' : Fin 8} (e : xcell c t h = xcell c' t' h') : c = c' ∧ t = t' ∧ h = h' :=
  ⟨congrArg (fun g : GSem nD τ sig => g.1.1) e, xS_inj (SemLoc.dma.inj (congrArg Prod.snd e))⟩

theorem bar_inj {c c' : Dev nD} (e : barCell c = barCell c') : c = c' := congrArg (fun g : GSem nD τ sig => g.1.1) e
theorem bar_ne_x (c c' : Dev nD) (t : Fin 3) (h : Fin 8) : barCell c ≠ xcell c' t h := fun e => by cases congrArg Prod.snd e

theorem at_self (g : GSem nD τ sig) (n : ℕ) : (tallyAt g () n : CellTallies nD τ sig Unit) g () = n := by
  rw [tallyAt_apply, if_pos ⟨rfl, rfl⟩]
theorem at_ne {g g' : GSem nD τ sig} (n : ℕ) (h : g ≠ g') : (tallyAt g' () n : CellTallies nD τ sig Unit) g () = 0 := by
  rw [tallyAt_apply, if_neg fun e => h e.1]

theorem rem_x (c c' : Dev nD) (h : Fin 8) : rem c' 0 (xcell c 2 h) () = if c' = c then N else 0 := by
  unfold rem
  rw [Finset.sum_apply, Finsupp.finset_sum_apply]
  split
  · next e =>
    subst e
    rw [Finset.sum_eq_single h (fun k _ hk => at_ne N fun e => hk (xcell_inj e).2.2.symm) (fun hn => absurd (Finset.mem_filter.mpr ⟨Finset.mem_univ h, Nat.zero_le _⟩) hn), at_self]
  · next e => exact Finset.sum_eq_zero fun k _ => at_ne N fun e' => e (xcell_inj e').1.symm

theorem rem_bar (c c' : Dev nD) : rem c' 0 (barCell c) () = 0 := by
  unfold rem
  rw [Finset.sum_apply, Finsupp.finset_sum_apply]
  exact Finset.sum_eq_zero fun k _ => at_ne N (bar_ne_x _ _ _ _)

theorem bar_bar (c c' : Dev nD) : (tallyAt (barCell c') () 1 : CellTallies nD τ sig Unit) (barCell c) () = if c' = c then 1 else 0 := by
  split
  · next e => subst e; exact at_self _ _
  · next e => exact at_ne _ fun e' => e (bar_inj e').symm
theorem bar_x (c c' : Dev nD) (h : Fin 8) : (tallyAt (barCell c') () 1 : CellTallies nD τ sig Unit) (xcell c 2 h) () = 0 :=
  at_ne _ (bar_ne_x _ _ _ _).symm

/-- What all devices together owe a barrier cell, -/
theorem owed_bar (c : Dev nD) : ∑ d : Dev nD, O₀ d (barCell c) () = if c = 0 then 2 else if c = 1 then 1 else 0 := by
  rw [show (∑ d : Dev nD, O₀ d (barCell c) ()) = O₀ 0 (barCell c) () + O₀ 1 (barCell c) () + O₀ 2 (barCell c) () + O₀ 3 (barCell c) () from Fin.sum_univ_four _]
  simp only [O₀, Pi.add_apply, Finsupp.add_apply, rem_bar, bar_bar]
  rcases dev_cases c with rfl | rfl | rfl | rfl <;> decide

/-- and a receive cell. -/
theorem owed_x (c : Dev nD) (h : Fin 8) : ∑ d : Dev nD, O₀ d (xcell c 2 h) () = if c = 0 then 0 else N := by
  rw [show (∑ d : Dev nD, O₀ d (xcell c 2 h) ()) = O₀ 0 (xcell c 2 h) () + O₀ 1 (xcell c 2 h) () + O₀ 2 (xcell c 2 h) () + O₀ 3 (xcell c 2 h) () from Fin.sum_univ_four _]
  simp only [O₀, Pi.add_apply, Finsupp.add_apply, rem_x, bar_x, Nat.add_zero]
  generalize N = n
  rcases dev_cases c with rfl | rfl | rfl | rfl <;> simp

/-- A device's launch credit, cell by cell. -/
def BarCred (c : Dev nD) : sProp 𝕄 :=
  if c = 0 then cred (tallyAt (barCell 0) () 2) else if c = 1 then cred (tallyAt (barCell 1) () 1) else iprop(emp)
def RecvCred (c : Dev nD) (h : Fin 8) : sProp 𝕄 := if c = 0 then iprop(emp) else crd c 2 h

theorem on_eq {g : GSem nD τ sig} {n : ℕ} (h : ∑ d : Dev nD, O₀ d g () = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, h]

omit [FloatOps F] [Named F] in
theorem creds (c : Dev nD) : (Pipeline.launchCred O₀ c : sProp 𝕄) ⊢ iprop(BarCred c ∗ bigSep Finset.univ fun h : Fin 8 => RecvCred c h) := by
  unfold Pipeline.launchCred
  have hinj : Set.InjOn (fun h : Fin 8 => (SemLoc.dma (xS 2 h) : SemLoc sig)) (Finset.univ : Finset (Fin 8)) :=
    fun h _ h' _ e => (xS_inj (SemLoc.dma.inj e)).2
  rw [bigSep_univ_at _ (SemLoc.reg barS)]
  have hb : (cred (tallyOn (barCell c) (launchCredit (Pipeline.owing O₀) 0 (barCell c))) : sProp 𝕄) ⊢ BarCred c := by
    rw [on_eq (owed_bar c)]
    unfold BarCred
    rcases dev_cases c with rfl | rfl | rfl | rfl
    · rw [if_pos (rfl : (0 : Dev nD) = 0), if_pos (rfl : (0 : Dev nD) = 0)]
    · rw [if_neg (show (1 : Dev nD) ≠ 0 by decide), if_neg (show (1 : Dev nD) ≠ 0 by decide), if_pos (rfl : (1 : Dev nD) = 1), if_pos (rfl : (1 : Dev nD) = 1)]
    · show (_ : sProp 𝕄) ⊢ _; iintro -; iempintro
    · show (_ : sProp 𝕄) ⊢ _; iintro -; iempintro
  · have hs : (bigSep (Finset.univ.erase (SemLoc.reg barS)) fun sm : SemLoc sig => (cred (tallyOn ((c : Thread nD τ), sm) (launchCredit (Pipeline.owing O₀) 0 ((c : Thread nD τ), sm))) : sProp 𝕄))
        ⊢ bigSep Finset.univ fun h : Fin 8 => (cred (tallyOn (xcell c 2 h) (launchCredit (Pipeline.owing O₀) 0 (xcell c 2 h))) : sProp 𝕄) :=
      (bigSep_subset (t := (Finset.univ : Finset (Fin 8)).image fun h => (SemLoc.dma (xS 2 h) : SemLoc sig)) fun sm hsm => by
        obtain ⟨h, -, rfl⟩ := Finset.mem_image.mp hsm
        exact Finset.mem_erase.mpr ⟨fun e => (by cases e), Finset.mem_univ _⟩).trans (Entails.of_eq (bigSep_image_of_injOn hinj _))
    have hm : (bigSep Finset.univ fun h : Fin 8 => (cred (tallyOn (xcell c 2 h) (launchCredit (Pipeline.owing O₀) 0 (xcell c 2 h))) : sProp 𝕄))
        ⊢ bigSep Finset.univ fun h : Fin 8 => RecvCred c h := bigSep_mono fun h _ => by
      rw [on_eq (owed_x c h)]
      unfold RecvCred
      split
      · show (_ : sProp 𝕄) ⊢ _; iintro -; iempintro
      · show (_ : sProp 𝕄) ⊢ _; iintro H; iexact H
    iintro ⟨HB, H⟩
    isplitl [HB]; · iapply hb; iexact HB
    iapply hm; iapply hs; iexact H

/-! ## The duties -/

/-- The barrier duties: of devices 1 and 3 to device 0, of device 2 to device 1. -/
def bt : Fin 3 → GSem nD τ sig × ℕ × Fin 4 := ![(barCell 0, 0, 1), (barCell 1, 0, 2), (barCell 0, 0, 3)]
/-- The copies' duties of a head: four of device 0's copies, two of device 1's. -/
def xt (h : Fin 8) : Fin 6 → GSem nD τ sig × ℕ × Fin 4 :=
  ![(xcell 0 0 h, 0, 0), (xcell 1 2 h, 0, 0), (xcell 0 1 h, 0, 0), (xcell 3 2 h, 0, 0), (xcell 1 0 h, 0, 1), (xcell 2 2 h, 0, 1)]

/-- The cell of a copy's duty: its device, its row. -/
def xk : Fin 6 → Dev nD × Fin 3 := ![(0, 0), (1, 2), (0, 1), (3, 2), (1, 0), (2, 2)]
theorem xt_cell (h : Fin 8) (k : Fin 6) : (xt h k).1 = xcell (xk k).1 (xk k).2 h := by fin_cases k <;> rfl
theorem xk_inj : Function.Injective xk := by decide

def barToks : Finset (GSem nD τ sig × ℕ × Fin 4) := Finset.univ.image bt
def xToks : Finset (GSem nD τ sig × ℕ × Fin 4) := Finset.univ.image fun p : Fin 8 × Fin 6 => xt p.1 p.2

theorem bt_inj : Function.Injective bt := by
  intro i j e
  have e' : (bt i).2.2 = (bt j).2.2 := by rw [e]
  revert e'; clear e; revert i j; decide
theorem xt_inj : Function.Injective fun p : Fin 8 × Fin 6 => xt p.1 p.2 := by
  rintro ⟨h, k⟩ ⟨h', k'⟩ e
  have e' : xcell (xk k).1 (xk k).2 h = xcell (xk k').1 (xk k').2 h' := (xt_cell h k).symm.trans ((congrArg Prod.fst e).trans (xt_cell h' k'))
  obtain ⟨h1, h2, h3⟩ := xcell_inj e'
  exact Prod.ext h3 (xk_inj (Prod.ext h1 h2))

theorem toks_disj : Disjoint barToks xToks := by
  rw [Finset.disjoint_left]
  rintro x hb hx
  obtain ⟨i, -, rfl⟩ := Finset.mem_image.mp hb
  obtain ⟨p, -, e⟩ := Finset.mem_image.mp hx
  have e' := (xt_cell p.1 p.2).symm.trans (congrArg Prod.fst e)
  fin_cases i <;> exact bar_ne_x _ _ _ _ e'.symm

abbrev tok (x : GSem nD τ sig × ℕ × Fin 4) : sProp 𝕄 := dutyTok ER x.1 x.2.1 x.2.2

omit [FloatOps F] [Named F] in
theorem fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ
omit [FloatOps F] [Named F] in
theorem fin6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

omit [FloatOps F] [Named F] in
theorem toks_eq : bigSep (barToks ∪ xToks) (tok (F := F))
    = iprop((tok (bt 0) ∗ tok (bt 1) ∗ tok (bt 2))
      ∗ bigSep Finset.univ fun h : Fin 8 => iprop(tok (xt h 0) ∗ tok (xt h 1) ∗ tok (xt h 2) ∗ tok (xt h 3) ∗ tok (xt h 4) ∗ tok (xt h 5))) := by
  rw [bigSep_union toks_disj]
  unfold barToks xToks
  rw [bigSep_image_of_injOn bt_inj.injOn, bigSep_image_of_injOn xt_inj.injOn, fin3, bigSep_univ_prod]
  congr 1
  exact bigSep_congr fun h _ => fin6 _

omit [FloatOps F] [Named F] in
/-- The duties and the launch credit, dealt to the devices. -/
theorem deal : iprop(bigSep (barToks ∪ xToks) (tok (F := F)) ∗ bigSep Finset.univ fun c : Dev nD => iprop(BarCred c ∗ bigSep Finset.univ fun h : Fin 8 => RecvCred c h))
    ⊢ bigSep Finset.univ fun c : Dev nD => iprop(BarTok (F := F) c ∗ bigSep Finset.univ (Tok c)) := by
  have hT0 : (bigSep Finset.univ fun h : Fin 8 => iprop(tok (F := F) (xt h 0) ∗ tok (xt h 1) ∗ tok (xt h 2) ∗ tok (xt h 3))) ⊢ bigSep Finset.univ (Tok (F := F) 0) :=
    bigSep_mono fun h _ => by unfold Tok; rw [if_pos (rfl : (0 : Dev nD) = 0)]; show (_ : sProp 𝕄) ⊢ _; iintro H; iexact H
  have hT1 : (bigSep Finset.univ fun h : Fin 8 => iprop(RecvCred (F := F) 1 h ∗ tok (xt h 4) ∗ tok (xt h 5))) ⊢ bigSep Finset.univ (Tok (F := F) 1) :=
    bigSep_mono fun h _ => by unfold Tok RecvCred; rw [if_neg (show (1 : Dev nD) ≠ 0 by decide), if_neg (show (1 : Dev nD) ≠ 0 by decide), if_pos (rfl : (1 : Dev nD) = 1)]; show (_ : sProp 𝕄) ⊢ _; iintro H; iexact H
  have hT (c : Dev nD) (h0 : c ≠ 0) (h1 : c ≠ 1) : (bigSep Finset.univ fun h : Fin 8 => RecvCred (F := F) c h) ⊢ bigSep Finset.univ (Tok (F := F) c) :=
    bigSep_mono fun h _ => by
      unfold Tok RecvCred; rw [if_neg h0, if_neg h0, if_neg h1]
      show (_ : sProp 𝕄) ⊢ _
      iintro H; isplitl [H]; · iexact H
      iempintro
  have hB0 : BarCred (F := F) 0 ⊢ BarTok 0 := by
    unfold BarTok BarCred; rw [if_pos (rfl : (0 : Dev nD) = 0), if_pos (rfl : (0 : Dev nD) = 0)]
  have hB1 : iprop(BarCred (F := F) 1 ∗ tok (bt 0)) ⊢ BarTok 1 := by
    unfold BarTok BarCred
    rw [if_neg (show (1 : Dev nD) ≠ 0 by decide), if_neg (show (1 : Dev nD) ≠ 0 by decide), if_pos (rfl : (1 : Dev nD) = 1), if_pos (rfl : (1 : Dev nD) = 1)]
    show (_ : sProp 𝕄) ⊢ _; iintro H; iexact H
  rw [toks_eq, fin4, fin4]
  iintro ⟨⟨⟨Hb0, Hb1, Hb2⟩, Hx⟩, ⟨Hc0, -⟩, ⟨Hc1, Hr1⟩, ⟨-, Hr2⟩, ⟨-, Hr3⟩⟩
  ihave Hx' := (show (bigSep Finset.univ fun h : Fin 8 => iprop(tok (F := F) (xt h 0) ∗ tok (xt h 1) ∗ tok (xt h 2) ∗ tok (xt h 3) ∗ tok (xt h 4) ∗ tok (xt h 5)))
      ⊢ iprop((bigSep Finset.univ fun h : Fin 8 => iprop(tok (F := F) (xt h 0) ∗ tok (xt h 1) ∗ tok (xt h 2) ∗ tok (xt h 3)))
        ∗ bigSep Finset.univ fun h : Fin 8 => iprop(tok (F := F) (xt h 4) ∗ tok (xt h 5))) from by
    rw [← bigSep_sep']
    refine bigSep_mono fun h _ => ?_
    show (_ : sProp 𝕄) ⊢ _
    iintro ⟨H0, H1, H2, H3, H4, H5⟩
    isplitl [H0 H1 H2 H3]
    · isplitl [H0]; · iexact H0
      isplitl [H1]; · iexact H1
      isplitl [H2] <;> iassumption
    isplitl [H4] <;> iassumption) $$ Hx
  icases Hx' with ⟨Hx0, Hx1⟩
  isplitl [Hc0 Hx0]
  · isplitl [Hc0]
    · iapply hB0; iexact Hc0
    iapply hT0; iexact Hx0
  isplitl [Hc1 Hb0 Hr1 Hx1]
  · isplitl [Hc1 Hb0]
    · iapply hB1
      isplitl [Hc1]; · iexact Hc1
      iexact Hb0
    iapply hT1
    iapply (Entails.of_eq (bigSep_sep' (Finset.univ : Finset (Fin 8)) (RecvCred (F := F) 1) (fun h => iprop(tok (xt h 4) ∗ tok (xt h 5)))).symm)
    isplitl [Hr1]; · iexact Hr1
    iexact Hx1
  isplitl [Hb1 Hr2]
  · isplitl [Hb1]
    · unfold BarTok
      rw [if_neg (show (2 : Dev nD) ≠ 0 by decide), if_neg (show (2 : Dev nD) ≠ 1 by decide), if_pos (rfl : (2 : Dev nD) = 2)]; iexact Hb1
    iapply (hT 2 (by decide) (by decide)); iexact Hr2
  isplitl [Hb2]
  · unfold BarTok
    rw [if_neg (show (3 : Dev nD) ≠ 0 by decide), if_neg (show (3 : Dev nD) ≠ 1 by decide), if_neg (show (3 : Dev nD) ≠ 2 by decide)]; iexact Hb2
  iapply (hT 3 (by decide) (by decide)); iexact Hr3

/-! ## The cells funded -/

omit [FloatOps F] [Named F] in
theorem bars_eq (Φ : GSem nD τ sig → sProp 𝕄) : bigSep barCells Φ = bigSep Finset.univ fun c : Dev nD => Φ (barCell c) := by
  unfold barCells; exact bigSep_image_of_injOn (fun c _ c' _ e => bar_inj e) Φ
omit [FloatOps F] [Named F] in
theorem xs_eq (Φ : GSem nD τ sig → sProp 𝕄) : bigSep xCells Φ = bigSep Finset.univ fun c : Dev nD => bigSep Finset.univ fun p : Fin 3 × Fin 8 => Φ (xcell c p.1 p.2) := by
  unfold xCells
  rw [bigSep_image_of_injOn (fun p _ p' _ e => by obtain ⟨h1, h2, h3⟩ := xcell_inj e; exact Prod.ext h1 (Prod.ext h2 h3)) Φ, bigSep_univ_prod]

theorem cells_disj : Disjoint barCells xCells := by
  rw [Finset.disjoint_left]
  rintro x hb hx
  obtain ⟨i, -, rfl⟩ := Finset.mem_image.mp hb
  obtain ⟨p, -, e⟩ := Finset.mem_image.mp hx
  exact bar_ne_x _ _ _ _ e.symm

variable (KV : (cc0_scratch0 : Ref sig .tc).ty.Contents (Elt F))

/-- All cells' invariants. -/
abbrev Invs (κ : GSem nD τ sig → ℕ) : sProp 𝕄 := bigSep (barCells ∪ xCells) fun g => cellInv ER (Rd (F := F) KV) (κ g) g

/-- What a device holds of the protocol until its region is entered: its transfer cells are not open yet. -/
def Dorm (c : Dev nD) : sProp 𝕄 :=
  iprop(∃ κ : GSem nD τ sig → ℕ, Invs KV κ ∗ BR ∗ BP c 0 ∗ (BarTok c ∗ bigSep Finset.univ (Tok c))
    ∗ bigSep Finset.univ fun p : Fin 3 × Fin 8 => openTok ER (xcell c p.1 p.2))

def elt : UB := launchOf barCells xCells (barToks ∪ xToks)

omit [FloatOps F] [Named F] in
theorem fund :
    iprop((bigSep Finset.univ fun c : Dev nD => iprop(semVal (barCell c) 0 ∗ Pipeline.launchCred O₀ c)) ∗ BI.own (ER elt))
      ⊢ (|={Set.univ}=> bigSep Finset.univ (Dorm KV) : sProp 𝕄) := by
  rw [bigSep_sep', ← bars_eq (fun g => (semVal g 0 : sProp 𝕄))]
  iintro ⟨⟨Hz, Hc⟩, Hu⟩
  unfold elt
  imod (Rounds.fund_launch ER (Rd (F := F) KV) cells_disj (fun _ _ h => h) (barToks ∪ xToks) (Es := Set.univ)) $$ [Hz Hu] with ⟨%κ, -, #HI, #Hr, Hat, Hop, Htok⟩
  · isplitl [Hz] <;> iassumption
  ihave Hc' := (show (bigSep Finset.univ fun c : Dev nD => (Pipeline.launchCred O₀ c : sProp 𝕄)) ⊢ _ from bigSep_mono fun c _ => creds c) $$ Hc
  ihave Hd := (deal (F := F)) $$ [Htok Hc']
  · isplitl [Htok] <;> iassumption
  imodintro
  iapply (show iprop(iprop(Invs KV κ ∗ BR) ∗ bigSep Finset.univ fun c : Dev nD => iprop(BP (F := F) c 0 ∗ (BarTok c ∗ bigSep Finset.univ (Tok c))
      ∗ bigSep Finset.univ fun p : Fin 3 × Fin 8 => openTok ER (xcell c p.1 p.2))) ⊢ bigSep Finset.univ (Dorm KV) from
    bigSep_with_persistent fun c _ => by
      unfold Dorm
      show (_ : sProp 𝕄) ⊢ _
      iintro ⟨⟨HI, HR⟩, HB, HT, HO⟩
      iexists κ
      isplitl [HI]; · iexact HI
      isplitl [HR]; · iexact HR
      isplitl [HB]; · iexact HB
      isplitl [HT] <;> iassumption)
  isplitr
  · isplitr; · iexact HI
    unfold BR
    iapply (Entails.of_eq (bars_eq (F := F) fun g => (reached ER g 0 : sProp 𝕄))); iexact Hr
  iapply (show iprop((bigSep Finset.univ fun c : Dev nD => BP (F := F) c 0) ∗ (bigSep Finset.univ fun c : Dev nD => iprop(BarTok (F := F) c ∗ bigSep Finset.univ (Tok c)))
      ∗ bigSep Finset.univ fun c : Dev nD => bigSep Finset.univ fun p : Fin 3 × Fin 8 => openTok ER (xcell c p.1 p.2))
      ⊢ bigSep Finset.univ fun c : Dev nD => iprop(BP (F := F) c 0 ∗ (BarTok c ∗ bigSep Finset.univ (Tok c))
      ∗ bigSep Finset.univ fun p : Fin 3 × Fin 8 => openTok ER (xcell c p.1 p.2)) from by rw [bigSep_sep' Finset.univ (fun c : Dev nD => BP (F := F) c 0), bigSep_sep' Finset.univ (fun c : Dev nD => iprop(BarTok (F := F) c ∗ bigSep Finset.univ (Tok c)))])
  isplitl [Hat]
  · iapply (Entails.of_eq (bars_eq (F := F) fun g => (atPos ER g 0 ∅ 0 : sProp 𝕄))); iexact Hat
  isplitl [Hd]; · iexact Hd
  iapply (Entails.of_eq (xs_eq (F := F) fun g => (openTok ER g : sProp 𝕄))); iexact Hop

omit [FloatOps F] [Named F] in
/-- The region's entry opens the device's transfer cells. -/
theorem wake (c : Dev nD) (κ : GSem nD τ sig → ℕ) :
    iprop(Invs KV κ ∗ (bigSep Finset.univ fun p : Fin 3 × Fin 8 => openTok ER (xcell c p.1 p.2))
      ∗ Pipeline.ownSems0 (Ix := Unit) (Name := ℕ) (U := UU) (Lvl := ℕ) (Val := Elt F) (τ := τ) osem c ∗ levAts L lv)
      ⊢ |={Set.univ}=> iprop(Ctx KV κ c ∗ bigSep Finset.univ fun h : Fin 8 => AP3 (F := F) c h) := by
  have hI : Invs KV κ ⊢ bigSep Finset.univ fun p : Fin 3 × Fin 8 => inv KV κ (xcell c p.1 p.2) :=
    bigSep_intro_persistent fun p _ => inv_all KV κ (x_mem c p.1 p.2)
  have hc := Rounds.cells_open ER (Rd (F := F) KV) (Finset.univ : Finset (Fin 3 × Fin 8)) (fun p => xcell c p.1 p.2) (fun p => κ (xcell c p.1 p.2))
    (Es := Set.univ) (fun _ _ => Set.mem_univ _)
  iintro ⟨#HI, Hop, Hz, HL⟩
  imod hc $$ [Hop Hz] with HA
  · isplitl [Hop]
    · rw [bigSep_sep']
      isplitr; · iapply hI; iexact HI
      iexact Hop
    unfold Pipeline.ownSems0; iexact Hz
  ihave HA' := (Entails.of_eq (bigSep_sep' (Finset.univ : Finset (Fin 3 × Fin 8)) (fun p => (atPos ER (xcell c p.1 p.2) 0 ∅ 0 : sProp 𝕄)) (fun p => reached ER (xcell c p.1 p.2) 0))) $$ HA
  icases HA' with ⟨HA, HR⟩
  imodintro
  isplitl [HL HR]
  · unfold Ctx
    isplitr; · iexact HI
    isplitl [HL] <;> iassumption
  iapply (show (bigSep Finset.univ fun p : Fin 3 × Fin 8 => (atPos ER (xcell c p.1 p.2) 0 ∅ 0 : sProp 𝕄)) ⊢ bigSep Finset.univ fun h : Fin 8 => AP3 (F := F) c h from
    Entails.of_eq (byHead (F := F) fun p : Fin 3 × Fin 8 => AP c p.1 p.2 0))
  iexact HA

end Cert.KernelIdeal.Pf

end
-- ==== Proof.Run.lean ====
/-
The run of the whole program on the four devices, from any memory.
-/
module

public import proofs.«01_k».proof.Proof.Fund
public import Idealize.ShloMosaic.Lib.Quiescent
public import Idealize.ShloMosaic.Lib.Pipeline.CollectiveSegs

@[expose] public section

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

open Idealize.ShloMosaic.Pipeline (Dat Cfg Window BodyObligation cellOf)

variable (m : (ℓ : Loc nD τ sig) → Buf (Elt F) ℓ) (ρ : Dev nD → PrngReg)

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | ⟨0, _⟩, c => dats m 0 c

local notation "ℍ" => Pipeline.HostSeg (Name := ℕ) (U := UU) (pcfgs (F := F)) defs₀ Variants.none L lv
local notation "ℝ𝕊" => Pipeline.RegionSeg (pcfgs (F := F)) adm (pdats m) () defs₀ Variants.none L lv

/-- What rides beside the buffers up to the region. -/
def Ride (c : Dev nD) : sProp 𝕄 := iprop(Dorm (KV0 m) c ∗ ∃ W, owes (c : Thread nD τ) (O₀ c) W)

/-- The host operations before the region. -/
def H0 : ℍ :=
  Pipeline.HostSeg.ofOps (pcfgs (F := F)) defs₀ Variants.none L lv (Pipeline.ucRefs τ sig) hostOps0
    (fun op h => Pipeline.sub_ucRefs op (List.forall_iff_forall_mem.mp hostOps0_sub op h)) (fun op h => List.forall_iff_forall_mem.mp hostOps0_fresh op h)
    (fun c b => m (c, b)) (Ride m)

/-- A result as the region leaves it. -/
abbrev out (c : Dev nD) : Buf (Elt F) ((c : Thread nD τ).loc main_v14) := (dats m 0 c).arrAt 4 cfg0.N

/-- The state after the region. -/
def Left (c : Dev nD) : sProp 𝕄 :=
  iprop((((c : Thread nD τ).loc main_v14) ↦{fullShare} out m c)
    ∗ Pipeline.unscopedRest (Ix := Unit) (Name := ℕ) (U := UU) (Lvl := ℕ) spec0 c (fun b => V m c b) ∗ semVal (barCell c) 0)

theorem lv_stage (w : Fin 5) (s : Fin (spec0 w).nbuf) (c : Dev nD) : lv ((c : Thread nD τ), SemLoc.dma ((spec0 w).sem s)) () ≤ 0 := by
  fin_cases w <;> fin_cases s <;> exact Nat.le_refl 0

theorem own_facts : Pipeline.OwnSemFacts spec0 osem := by constructor <;> decide

set_option backward.isDefEq.respectTransparency.types false in
def R0 : ℝ𝕊 0 where
  win := launch0.win.to₀
  block_pos := launch0.block_pos
  stage_whole := launch0.stage_whole
  K := Fin 3 × Fin 8
  osem := osem
  ho := own_facts
  hbody c := (body_obligation m c).loose
  hwaits c := Pipeline.cellsWaits_intro _ (pdats m) () 0 c fun w s t => mayWait_of (k := 0) (lv_stage w s c) (by
    show Above 0 ((dats m 0 c).owed t)
    unfold dats
    match t with
    | ⟨0, _⟩ => exact above_O₀ c
    | ⟨_ + 1, _⟩ => exact above_zero 0)
  pre c := iprop(unscopedBufs c (fun b => V m c b) ∗ Ride m c)
  post c := iprop(Left m c ∗ ∃ W, owes (c : Thread nD τ) (0 : CellTallies nD τ sig Unit) W)
  X c := Live m c
  Y c := semVal (barCell c) 0
  Z c := Pipeline.unscopedRest (Ix := Unit) (Name := ℕ) (U := UU) (Lvl := ℕ) spec0 c (fun b => V m c b)
  hentry c := by
    have hsplit := Pipeline.arrays_of_unscopedBufs (pcfgs (F := F)) adm (pdats m) launch0.win launch0.arr_whole c
      ((pdats m 0 c).share_full fun _ => rfl) (fun b => V m c b) fun _ => rfl
    unfold Ride Dorm
    iintro ⟨⟨Hub, ⟨%κ, HI, HR, HB, ⟨HT, HTh⟩, HOp⟩, %W, HO⟩, Hz, HL⟩
    ihave H := hsplit $$ Hub
    icases H with ⟨Ha, Hr⟩
    imod (wake (KV0 m) c κ) $$ [HI HOp Hz HL] with ⟨HC, HA⟩
    · isplitl [HI]; · iexact HI
      isplitl [HOp]; · iexact HOp
      isplitl [Hz] <;> iassumption
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun _ _ => Or.inl trivial
      iexact HO
    isplitr [Hr]; swap; · iexact Hr
    unfold Live
    iexists κ
    isplitl [HC]; · iexact HC
    isplitl [HR]; · iexact HR
    isplitl [HB]; · iexact HB
    isplitl [HT]; · iexact HT
    iapply (Entails.of_eq (bigSep_sep' (Finset.univ : Finset (Fin 8)) (Tok (F := F) c) (AP3 (F := F) c)).symm)
    isplitl [HTh] <;> iassumption
  hin c := by
    rw [scopedRest0_eq]
    show _ ⊢ Φa m c
    unfold Φa CB CX
    iintro ⟨HL, -, HB, HC⟩
    isplitl [HL]; · iexact HL
    isplitl [HB]; · iexact HB
    iexact HC
  hout c := by
    rw [scopedRest0_eq]
    show Φz c ⊢ _
    unfold Φz CB CX
    iintro ⟨Hs, Ho, HB, HC⟩
    isplitl [Hs]; · iexact Hs
    isplitl [Ho]; · iexact Ho
    isplitl [HB]; · iexact HB
    iexact HC
  hexit c := by
    have harr : ((pdats m 0 c).arrays ((pdats m 0 c).arrAt · (Pipeline.pin (pcfgs (F := F)) adm 0).N) : sProp 𝕄) ⊢ ((c : Thread nD τ).loc main_v14) ↦{fullShare} out m c := by
      rw [Pipeline.arrays_eq (Pipeline.pin (pcfgs (F := F)) adm) (pdats m) 0 c launch0.arr_whole ((pdats m 0 c).share_full fun _ => rfl) _, bigSep_W0]
      iintro ⟨-, -, -, -, H⟩
      iexact H
    iintro ⟨Ha, HO, HY, HZ⟩
    imodintro
    isplitr [HO]
    · unfold Left
      isplitl [Ha]; · iapply harr; iexact Ha
      isplitl [HZ] <;> iassumption
    unfold Pipeline.Dat.owesAt Pipeline.owesWithin
    icases HO with ⟨%W, -, HO⟩; iexists W; iexact HO

def segs : List (Pipeline.Seg (pcfgs (F := F)) adm (pdats m) () defs₀ Variants.none L lv) := [.host (H0 m), .region (R0 m)]

theorem H0_R0 (c : Dev nD) : (H0 m).post c ⊢ (R0 m).pre c := by
  show iprop(StableHlo.held (c.tc : Thread nD τ) (Pipeline.ucRefs τ sig) (StableHlo.after hostOps0 fun b => m (c, b)) ∗ Ride m c)
    ⊢ iprop(unscopedBufs c (fun b => V m c b) ∗ Ride m c)
  rw [← Pipeline.unscopedBufs_held]

/-- The launch element. -/
def u₀ : UU :=
  (initOf (Pipeline.cells (Pipeline.pin (pcfgs (F := F)) adm) cellOf_inj) (Pipeline.launchToks (Pipeline.pin (pcfgs (F := F)) adm) cellOf_inj), elt)

def G (c : Dev nD) : sProp 𝕄 := if c = 0 then BI.own (ER elt) else iprop(emp)

omit [FloatOps F] [Named F] in
theorem bigSep_G : bigSep Finset.univ (G (F := F)) = BI.own (ER elt) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

omit [FloatOps F] [Named F] in
theorem unscopedSems0_eq (c : Dev nD) : (unscopedSems0 c : sProp 𝕄) = semVal (barCell c) 0 := by
  unfold unscopedSems0
  rw [bigSep_eq_bigSepL_of_eq [SemLoc.reg barS] (by decide) (by decide)]
  rfl

abbrev T₀ (c : Dev nD) : sProp 𝕄 := (H0 m).pre c

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have h1 (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ iprop((semVal (barCell c) 0 ∗ Pipeline.launchCred O₀ c) ∗ G c
        ∗ (unscopedBufs c (fun b => m ((c : Thread nD τ).loc b)) ∗ owes (c : Thread nD τ) (O₀ c) ∅)) := by
    rw [unscopedSems0_eq]
    iintro ⟨Hub, Hus, HO, Hcr, -, HG⟩
    isplitl [Hus Hcr]; · isplitl [Hus] <;> iassumption
    isplitl [HG]; · iexact HG
    isplitl [Hub] <;> iassumption
  have h2 (c : Dev nD) : iprop(Dorm (KV0 m) c ∗ (unscopedBufs c (fun b => m ((c : Thread nD τ).loc b)) ∗ owes (c : Thread nD τ) (O₀ c) ∅)) ⊢ T₀ m c := by
    show _ ⊢ iprop(StableHlo.held (c.tc : Thread nD τ) (Pipeline.ucRefs τ sig) (fun b => m (c, b)) ∗ Ride m c)
    rw [← Pipeline.unscopedBufs_held]
    unfold Ride
    iintro ⟨HD, Hub, HO⟩
    isplitl [Hub]; · iexact Hub
    isplitl [HD]; · iexact HD
    iexists ∅; iexact HO
  iintro ⟨H, -⟩
  ihave H' := (show _ ⊢ iprop((bigSep Finset.univ fun c : Dev nD => iprop(semVal (barCell c) 0 ∗ Pipeline.launchCred O₀ c)) ∗ bigSep Finset.univ (G (F := F))
        ∗ bigSep Finset.univ fun c : Dev nD => iprop(unscopedBufs c (fun b => m ((c : Thread nD τ).loc b)) ∗ owes (c : Thread nD τ) (O₀ c) ∅))
      from by rw [← bigSep_sep', ← bigSep_sep']; exact bigSep_mono fun c _ => h1 c) $$ H
  icases H' with ⟨Hsc, HG, Hrest⟩
  ihave Hu := (Entails.of_eq (bigSep_G (F := F))) $$ HG
  imod (fund (KV0 m)) $$ [Hsc Hu] with Hr
  · isplitl [Hsc] <;> iassumption
  imodintro
  iapply (show iprop((bigSep Finset.univ (Dorm (KV0 m)))
        ∗ bigSep Finset.univ fun c : Dev nD => iprop(unscopedBufs c (fun b => m ((c : Thread nD τ).loc b)) ∗ owes (c : Thread nD τ) (O₀ c) ∅))
      ⊢ bigSep Finset.univ (T₀ m) from by rw [← bigSep_sep']; exact bigSep_mono fun c _ => h2 c)
  isplitl [Hr] <;> iassumption

/-- What the run leaves on a device. -/
def Ends (c : Dev nD) (s : MemSt nD τ sig (Elt F)) : Prop :=
  s.mem ((c : Thread nD τ).loc main_v14) = out m c
    ∧ s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)
    ∧ s.mem ((c : Thread nD τ).loc main_arg4) = m ((c : Thread nD τ).loc main_arg4)

theorem read_all (c : Dev nD) (s' : Phys nD τ sig (Elt F)) :
    iprop(Left m c ∗ SI s') ⊢ (|={Set.univ}=> iprop(⌜Ends m c s'.mem ∧ ∀ sm : SemLoc sig, sm.isScoped .tc = false → s'.mem.sem ((c : Thread nD τ), sm) = 0⌝ ∗ SI s') : sProp 𝕄) := by
  have hs := Pipeline.unscopedSems0_read (Ix := Unit) (Name := ℕ) (U := UU) (Lvl := ℕ) (Val := Elt F) (X := unscopedSems0 c) (c := c) fupd_intro s'
  unfold Left
  rw [unscopedRest0_eq, V_main_arg0, V_main_arg1, V_main_arg2, V_main_arg3, V_main_arg4]
  iintro ⟨⟨H14, ⟨H0, H1, H2, H3, H4, -⟩, Hb⟩, HSI⟩
  icombine HSI H14 gives %h14
  icombine HSI H0 gives %h0
  icombine HSI H1 gives %h1
  icombine HSI H2 gives %h2
  icombine HSI H3 gives %h3
  icombine HSI H4 gives %h4
  imod hs $$ [Hb HSI] with ⟨%hz, HSI⟩
  · isplitl [Hb]; · rw [unscopedSems0_eq]; iexact Hb
    iexact HSI
  imodintro
  isplitr; swap; · iexact HSI
  ipureintro
  exact ⟨⟨Buf.eq_of_forall_mem_univ h14, Buf.eq_of_forall_mem_univ h0, Buf.eq_of_forall_mem_univ h1, Buf.eq_of_forall_mem_univ h2,
    Buf.eq_of_forall_mem_univ h3, Buf.eq_of_forall_mem_univ h4⟩, hz⟩

set_option backward.isDefEq.respectTransparency.types false in
/-- The run: it ends, every device's result and arguments as said, every semaphore at zero. -/
theorem run_main : θ_run defs (onTc (τ := τ) (main (F := F))) (s₀ m ρ) (fun r => (∀ c : Dev nD, Ends m c r.2) ∧ r.2.sem = fun _ => 0) :=
  Pipeline.θ_run_regions_kit_sems (pcfgs (F := F)) adm (pdats m) () cellOf_inj EP defs₀ Variants.none L lv m ρ main (segs m)
    (fun c Q => by rw [Gen.main_segs adm (pdats m) () Variants.none L lv (H0 m) (R0 m) rfl c]; rfl)
    (by simp only [segs, Pipeline.Seg.pipes_host, Pipeline.Seg.pipes_region, Pipeline.Seg.pipes_nil]; decide)
    (O₀ := O₀) (hL := L_of_ne) (G := G) (u₀ := u₀)
    (hu₀ := by
      unfold u₀
      iintro Hu
      ihave H := (ownU_pair _ _) $$ Hu
      icases H with ⟨HP, HX⟩
      imodintro
      isplitl [HP]; · iexact HP
      rw [bigSep_G]; iexact HX)
    (T₀ := T₀ m) (Tₙ := Left m)
    (hch := ⟨fun c => .rfl, H0_R0 m, fun c => .rfl⟩)
    (hinit := init m ρ)
    (QY := fun c s => Ends m c s ∧ ∀ sm : SemLoc sig, sm.isScoped .tc = false → s.sem ((c : Thread nD τ), sm) = 0)
    (hfin := fun c s' => read_all m c s')
    (hQ := fun s h hs => ⟨fun c => (h c).1, sem_eq_zero hs fun c sm hsm => (h c).2 sm hsm⟩)

end Cert.KernelIdeal.Pf

end
-- ==== Proof.Word.lean ====
/-
The printed program is the idealised one with the mask read as the constant it was printed with.
-/
module

public import proofs.«01_k».proof.Proof.Run
public import proofs.«01_k».proof.Proof.Gen.Kernel.Frame

@[expose] public section

noncomputable section

namespace Cert.KernelIdeal.Pf

open Idealize.ShloMosaic Idealize.SL.Sem
open Idealize.ShloMosaic.TcCoe

variable {F : FTy → Type} [FloatOps F]

/-- A named constant read as its printed bits. -/
abbrev printed : Named F := ⟨fun _ _ {φ} b => FloatOps.ofBits φ b⟩

theorem sig_eq : Cert.Kernel.sig = Cert.KernelIdeal.sig := rfl

theorem main_eq : letI : Named F := printed; Cert.Kernel.main (F := F) = Cert.KernelIdeal.main (F := F) := rfl

theorem body_same : letI : Named F := printed; Cert.Kernel.cc0__body (F := F) = Cert.KernelIdeal.cc0__body (F := F) := rfl

theorem defs₀_eq : letI : Named F := printed; Cert.Kernel.defs₀ (F := F) = Cert.KernelIdeal.defs₀ (F := F) := by
  unfold Cert.Kernel.defs₀ Cert.KernelIdeal.defs₀
  congr 1
  funext l x
  match l, x with
  | ⟨0, _⟩, (t, s) => rfl
  | ⟨n + 1, h⟩, _ => exact absurd h (Nat.not_lt.2 (Nat.le_add_left _ _))

theorem defs_eq : letI : Named F := printed; Cert.Kernel.defs (F := F) = Cert.KernelIdeal.defs (F := F) := by
  letI : Named F := printed
  exact congrArg (Pipeline.defs (Cert.KernelIdeal.pcfgs (F := F))) defs₀_eq

/-- The printed program's run, at any float values. -/
theorem word_run (m : (ℓ : Loc Cert.Kernel.nD Cert.Kernel.τ Cert.Kernel.sig) → Buf (Elt F) ℓ) (ρ : Dev Cert.Kernel.nD → PrngReg) :
    letI : Named F := printed
    θ_run (Cert.Kernel.defs (F := F)) (onTc (τ := Cert.Kernel.τ) (Cert.Kernel.main (F := F))) ⟨m, fun _ => 0, ρ⟩
      (fun r => (∀ c : Dev nD, Ends m c r.2) ∧ r.2.sem = fun _ => 0) := by
  letI : Named F := printed
  rw [defs_eq, main_eq]
  exact run_main m ρ

end Cert.KernelIdeal.Pf

end
-- ==== Proof.Frames.lean ====
/-
The frames of the three programs, and the idealization's one rewrite.
-/
module

public import proofs.«01_k».proof.Defs
public import proofs.«01_k».proof.Proof.Word
public import proofs.«01_k».proof.Proof.Gen.KernelIdeal.Frame
public import proofs.«01_k».proof.Proof.Gen.ReferenceIdeal
public import proofs.«01_k».proof.Proof.Gen.ReferenceIdeal.Run

@[expose] public section

noncomputable section

namespace Cert.Proof

open Idealize.ShloMosaic Idealize.SL.Sem
open Cert.KernelIdeal.Pf

theorem frame_kernel : Cert.quiescent_Kernel (hKernel := Cert.Kernel.Gen.facts) := fun m g _ =>
  (θ_run (Cert.Kernel.defs (F := Bits)) _ _).mono (fun _ h => ⟨fun c => (h.1 c).2, h.2⟩) (word_run m g)

theorem frame_ideal : Cert.quiescent_KernelIdeal (hKernelIdeal := Cert.KernelIdeal.Gen.facts) := fun m g _ =>
  (θ_run (Cert.KernelIdeal.defs (F := Ideal)) _ _).mono (fun _ h => ⟨fun c => (h.1 c).2, h.2⟩) (run_main m g)

theorem frame_reference : Cert.quiescent_ReferenceIdeal (hReferenceIdeal := Cert.ReferenceIdeal.Gen.facts) := fun m g _ =>
  (θ_run (Cert.ReferenceIdeal.defs (F := Ideal)) _ _).mono (fun r h => ⟨fun c => (h c).2, sem_eq_zero_of_no_sems rfl r.2⟩) (Cert.ReferenceIdeal.Value.run m g)

theorem mask_named : Cert.preserves_Kernel_KernelIdeal :=
  IdealRules.named_const.statement Cert.KernelIdeal.κ "mask" .f32 0xCE6E6B28#32 ⊥ rfl

end Cert.Proof

end
-- ==== Proof.Attend.lean ====
/-
Attention for one query over the extended reals: a softmax of scores against values. Keys with score minus infinity
add nothing, so a score vector that is minus infinity from some key on gives what its first keys give.
-/
module

public import Idealize.ShloMosaic.Lib.Pointwise

@[expose] public section

noncomputable section

namespace Cert.Attend

open Idealize.ShloMosaic

/-- The greatest score. -/
def top {n : ℕ} (s : Fin n → EReal) : EReal := Finset.univ.fold max ⊥ s

/-- The sum of the weights, before they are normalised. -/
def mass {n : ℕ} (s : Fin n → EReal) : EReal := ∑ j, Ideal.exp (s j - top s)

/-- The values, weighted by the normalised exponentials of the scores. -/
def attend {n : ℕ} (s v : Fin n → EReal) : EReal := ∑ j, Ideal.div (Ideal.exp (s j - top s)) (mass s) * v j

theorem top_eq_sup {n : ℕ} (s : Fin n → EReal) : top s = Finset.univ.sup s := rfl

section Split

variable {a b n : ℕ} (h : a + b = n)

/-- The first keys. -/
def lo (j : Fin a) : Fin n := ⟨j.val, by have := j.isLt; omega⟩
/-- The other keys. -/
def hi (j : Fin b) : Fin n := ⟨a + j.val, by have := j.isLt; omega⟩

theorem sum_split (f : Fin n → EReal) : ∑ j, f j = (∑ j, f (lo h j)) + ∑ j, f (hi h j) := by
  subst h
  exact Fin.sum_univ_add f

variable (s v : Fin n → EReal) (hs : ∀ j : Fin n, a ≤ j.val → s j = ⊥)

include hs

theorem sum_lo (f : Fin n → EReal) (hf : ∀ j : Fin n, s j = ⊥ → f j = 0) : ∑ j, f j = ∑ j, f (lo h j) := by
  rw [sum_split h f, Finset.sum_eq_zero (s := Finset.univ) (f := fun j => f (hi h j)) (fun j _ => hf _ (hs _ (Nat.le_add_right _ _))), add_zero]

theorem top_lo : top s = top fun j => s (lo h j) := by
  rw [top_eq_sup, top_eq_sup]
  refine le_antisymm (Finset.sup_le fun j _ => ?_) (Finset.sup_le fun j _ => Finset.le_sup (f := s) (Finset.mem_univ (lo h j)))
  by_cases hj : a ≤ j.val
  · rw [hs j hj]; exact bot_le
  · exact Finset.le_sup (f := fun j => s (lo h j)) (Finset.mem_univ (⟨j.val, by omega⟩ : Fin a))

theorem mass_lo : mass s = mass fun j => s (lo h j) := by
  unfold mass
  rw [sum_lo h s hs _ (fun j hj => by rw [hj, EReal.bot_sub, Ideal.exp_bot]), top_lo h s hs]

/-- Keys whose score is minus infinity may be left out, where the weights do not all vanish. -/
theorem attend_lo (hm : mass s ≠ 0) : attend s v = attend (fun j => s (lo h j)) (fun j => v (lo h j)) := by
  unfold attend
  have e : ∀ j : Fin n, s j = ⊥ → Ideal.div (Ideal.exp (s j - top s)) (mass s) * v j = 0 := fun j hj => by
    rw [hj, EReal.bot_sub, Ideal.exp_bot, Ideal.div, if_neg hm, zero_mul, zero_mul]
  rw [sum_lo h s hs _ e, ← top_lo h s hs, ← mass_lo h s hs]

end Split

variable {n : ℕ}

theorem exp_nonneg (x : EReal) : 0 ≤ Ideal.exp x := by
  induction x with
  | bot => exact le_refl _
  | top => exact le_top
  | coe r => rw [Ideal.exp_coe]; exact EReal.coe_nonneg.2 (Real.exp_pos r).le

/-- The weights do not all vanish where no score is infinite from above and some score is finite. -/
theorem mass_ne_zero (s : Fin n → EReal) (ht : ∀ j, s j ≠ ⊤) (j₀ : Fin n) (hj : s j₀ ≠ ⊥) : mass s ≠ 0 := by
  have top_ne_top : top s ≠ ⊤ := by
    rw [top_eq_sup]
    exact ((Finset.sup_lt_iff bot_lt_top).2 fun j _ => lt_top_iff_ne_top.2 (ht j)).ne
  have top_ne_bot : top s ≠ ⊥ := by
    rw [top_eq_sup]
    exact ((bot_lt_iff_ne_bot.2 hj).trans_le (Finset.le_sup (f := s) (Finset.mem_univ j₀))).ne'
  have hpos : 0 < Ideal.exp (s j₀ - top s) := by
    lift top s to ℝ using ⟨top_ne_top, top_ne_bot⟩ with t
    lift s j₀ to ℝ using ⟨ht j₀, hj⟩ with r
    rw [← EReal.coe_sub, Ideal.exp_coe]
    exact EReal.coe_pos.2 (Real.exp_pos _)
  exact (hpos.trans_le (Finset.single_le_sum (f := fun j => Ideal.exp (s j - top s)) (fun j _ => exp_nonneg _) (Finset.mem_univ j₀))).ne'

/-! ## Finite sums and products -/

/-- Neither infinity. -/
def Tame (x : EReal) : Prop := x ≠ ⊤ ∧ x ≠ ⊥

theorem Tame.mul {x y : EReal} (hx : Tame x) (hy : Tame y) : Tame (x * y) := by
  lift x to ℝ using hx
  lift y to ℝ using hy
  rw [← EReal.coe_mul]
  exact ⟨EReal.coe_ne_top _, EReal.coe_ne_bot _⟩

theorem Tame.add {x y : EReal} (hx : Tame x) (hy : Tame y) : Tame (x + y) := by
  lift x to ℝ using hx
  lift y to ℝ using hy
  rw [← EReal.coe_add]
  exact ⟨EReal.coe_ne_top _, EReal.coe_ne_bot _⟩

theorem Tame.sum {ι : Type*} (t : Finset ι) (f : ι → EReal) (hf : ∀ i, Tame (f i)) : Tame (∑ i ∈ t, f i) := by
  classical
  induction t using Finset.induction_on with
  | empty => exact ⟨EReal.zero_ne_top, EReal.zero_ne_bot⟩
  | insert a t ha ih => rw [Finset.sum_insert ha]; exact (hf a).add ih

/-! ## A masked score -/

theorem neg_inf : Ideal.ofBits .f32 0xFF800000#32 = ⊥ := by simp [Ideal.ofBits, Ideal.ieee]

/-- A column's head, its place in the head, and back. -/
def headOf (l : Fin 1024) : Fin 8 := ⟨l.val / 128, by have := l.isLt; omega⟩
def laneOf (l : Fin 1024) : Fin 128 := ⟨l.val % 128, Nat.mod_lt _ (by decide)⟩
def colOf (h : Fin 8) (d : Fin 128) : Fin 1024 := ⟨h.val * 128 + d.val, by have := h.isLt; have := d.isLt; omega⟩

/-- The scaled product of a query and a key, minus infinity where the mask is off. -/
def score (b : BitVec 1) (q k : Fin 128 → EReal) : EReal := Scalar.select b ((∑ d, q d * k d) * Ideal.ofBits .f32 0x3DB504F3#32) ⊥

theorem score_off (q k : Fin 128 → EReal) : score 0#1 q k = ⊥ := rfl

theorem scale_tame : Tame (Ideal.ofBits .f32 0x3DB504F3#32) := by
  constructor <;> simp [Ideal.ofBits, Ideal.ieee, ← EReal.coe_mul, -EReal.coe_mul]

theorem score_on_tame (q k : Fin 128 → EReal) (hq : ∀ d, Tame (q d)) (hk : ∀ d, Tame (k d)) : Tame (score 1#1 q k) :=
  (Tame.sum _ _ fun d => (hq d).mul (hk d)).mul scale_tame

theorem bit_cases : ∀ b : BitVec 1, b = 0#1 ∨ b = 1#1 := by decide

theorem score_ne_top (b : BitVec 1) (q k : Fin 128 → EReal) (hb : b = 0#1 ∨ Tame (score 1#1 q k)) : score b q k ≠ ⊤ := by
  obtain rfl | rfl := bit_cases b
  · exact bot_ne_top
  · exact (hb.resolve_left (by decide)).1

end Cert.Attend

end
-- ==== Proof.Blocks.lean ====
/-
The block mask in words: the block of a place below 4096 as kernel and reference each compute it, and the comparison of blocks.
-/
module

public import Idealize.ShloMosaic.Lib.Pointwise

@[expose] public section

noncomputable section

namespace Cert.Attend

open Idealize.ShloMosaic

/-- A query's block is at or after a key's. -/
def seen (i j : ℕ) : BitVec 1 := if j / 64 ≤ i / 64 then 1#1 else 0#1

/-- Blocks as words compare as numbers. -/
theorem cmp_blocks (a b : Fin 64) : IntOp.cmpi .sle (BitVec.ofNat 32 a.val) (BitVec.ofNat 32 b.val) = if a.val ≤ b.val then 1#1 else 0#1 := by
  revert a b; decide +kernel

theorem cmp_seen (i j : ℕ) (hi : i < 4096) (hj : j < 4096) : IntOp.cmpi .sle (BitVec.ofNat 32 (j / 64)) (BitVec.ofNat 32 (i / 64)) = seen i j :=
  cmp_blocks ⟨j / 64, by omega⟩ ⟨i / 64, by omega⟩

/-- The division by 64 that rounds down, as the host writes it. -/
theorem host_block (j : Fin 4096) :
    Scalar.select
      (IntOp.andi
        (IntOp.cmpi .ne (if BitVec.ofNat 32 j.val = 0 then 0 else if (BitVec.ofNat 32 j.val).msb = true then -1 else 1)
          (if (64#32 : BitVec 32) = 0 then (0 : BitVec 32) else if (64#32 : BitVec 32).msb = true then -1 else 1))
        (IntOp.cmpi .ne (IntOp.remsi .host (BitVec.ofNat 32 j.val) 64#32) 0#32))
      (IntOp.subi (IntOp.divsi .host (BitVec.ofNat 32 j.val) 64#32) 1#32)
      (IntOp.divsi .host (BitVec.ofNat 32 j.val) 64#32) = BitVec.ofNat 32 (j.val / 64) := by
  revert j; decide +kernel

/-- The same, as the kernel writes it. -/
theorem core_block (j : Fin 1024) :
    Scalar.select
      (IntOp.andi
        (IntOp.cmpi .ne
          (IntOp.subi (BitVec.setWidth 32 (IntOp.cmpi .sgt (BitVec.ofNat 32 j.val) 0#32)) (BitVec.setWidth 32 (IntOp.cmpi .slt (BitVec.ofNat 32 j.val) 0#32)))
          (Scalar.subi (Scalar.extui (Scalar.cmpi .sgt 64#32 0#32)) (Scalar.extui (Scalar.cmpi .slt 64#32 0#32))))
        (IntOp.cmpi .ne (IntOp.remsi .vector (BitVec.ofNat 32 j.val) 64#32) 0#32))
      (IntOp.subi (IntOp.divsi .vector (BitVec.ofNat 32 j.val) 64#32) 1#32)
      (IntOp.divsi .vector (BitVec.ofNat 32 j.val) 64#32) = BitVec.ofNat 32 (j.val / 64) := by
  revert j; decide +kernel

/-- A disjunction with a true member is true. -/
theorem any_of {n : ℕ} (f : Fin n → BitVec 1) (j : Fin n) (hj : f j = 1#1) : Finset.univ.fold IntOp.ori 0#1 f = 1#1 := by
  rw [← Finset.insert_erase (Finset.mem_univ j), Finset.fold_insert (Finset.notMem_erase _ _), hj]
  generalize Finset.fold IntOp.ori 0#1 f (Finset.univ.erase j) = x
  revert x; decide

end Cert.Attend

end
-- ==== Proof.KVal.lean ====
/-
The kernel's arithmetic read at an index over the extended reals: its mask, a head, the context and the products.
-/
module

public import proofs.«01_k».proof.Proof.Oblig
public import proofs.«01_k».proof.Proof.Attend
public import proofs.«01_k».proof.Proof.Blocks
public import Idealize.ShloMosaic.Lib.Pointwise
public import Idealize.ShloMosaic.Lib.Pipeline.ValueKit.Tiles

@[expose] public section

noncomputable section

namespace Cert.KernelIdeal.Pf

open Cert.KernelIdeal Cert.KernelIdeal.Gen
open Idealize.ShloMosaic
open Idealize.ShloMosaic.TcCoe
open Cert.Attend hiding colOf

theorem msk_apply (i j : Fin 1024) : msk (ix2 i j) = seen i j := by
  pointwise [msk, k0_pay6, k0_pay3, k0_pay4, k0_pay5]
  rw [core_block, core_block, cmp_seen i j (by omega) (by omega)]

/-- A slot's keys or values are the buffer's. -/
theorem kvAt_apply (KV : (cc0_scratch0 : Ref sig .tc).ty.Contents (Elt Ideal)) (h : Fin 8) (b : Fin 2) (j : Fin 1024) (d : Fin 128) :
    kvAt KV h b (ix4 0 0 j d) = KV (ix4 h b j d) := by
  unfold kvAt
  rw [View.readAt_eq_ld]
  refine View.ld_unit_apply_of _ _ _ _ _ _ ?_
  intro a
  fin_cases a <;> simp [ix4]

theorem mask_bot : Named.named (F := Ideal) κ "mask" (φ := .f32) 0xCE6E6B28#32 = (⊥ : EReal) := by
  have h : κ "mask" = some ⊥ := rfl
  simp [Named.named, h]

theorem scores_apply (h : Fin 8) (q : FVec Ideal S1024x1024 .bf16) (m : IVec S1024x1024 1) (k : Vec Ideal S1x1x1024x128 .bf16) (i j : Fin 1024) :
    scores h q m k (ix2 i j) = score (m (ix2 i j)) (fun d => q (ix2 i (Cert.Attend.colOf h d))) (fun d => k (ix4 0 0 j d)) := by
  pointwise [scores]
  rw [score, mask_bot]
  simp only [Cert.Attend.colOf, mul_comm (128 : ℕ)]

theorem headOut_apply (h : Fin 8) (q : FVec Ideal S1024x1024 .bf16) (m : IVec S1024x1024 1) (k v : Vec Ideal S1x1x1024x128 .bf16) (i : Fin 1024) (d : Fin 128) :
    headOut h q m k v (ix2 i d) = attend (fun j => scores h q m k (ix2 i j)) (fun j => v (ix4 0 0 j d)) := by
  unfold headOut
  generalize scores h q m k = s
  pointwise [k0_pay9]
  rw [neg_inf]
  rfl

/-- The context: each head attends to the keys its mask lets through. -/
theorem ctxEnd_apply (KV : (cc0_scratch0 : Ref sig .tc).ty.Contents (Elt Ideal)) (q : FVec Ideal S1024x1024 .bf16) (i l : Fin 1024) :
    ctxEnd KV q (ix2 i l) = attend (fun j : Fin 1024 => score (seen i j) (fun d => q (ix2 i (Cert.Attend.colOf (headOf l) d))) (fun d => KV (ix4 (headOf l) 0 j d)))
      (fun j => KV (ix4 (headOf l) 1 j (laneOf l))) := by
  have e : colIx (ix2 i l) = ix2 i (laneOf l) := by
    funext a; fin_cases a <;> rfl
  have e' : hd (ix2 i l) = headOf l := rfl
  unfold ctxEnd colOf
  rw [e, e', headOut_apply]
  simp only [scores_apply, msk_apply, kvAt_apply]

theorem query_apply (x w : Vec Ideal S1024x1024 .bf16) (i l : Fin 1024) : k0_pay2 x w (ix2 i l) = ∑ e, x (ix2 i e) * w (ix2 e l) := by
  pointwise [k0_pay2]

theorem result_apply (x w : Vec Ideal S1024x1024 .bf16) (i l : Fin 1024) : k0_pay24 x w (ix2 i l) = ∑ e, x (ix2 i e) * w (ix2 e l) := by
  pointwise [k0_pay24]

theorem fill_apply (v : Vec Ideal S8x2x1024x128 .bf16) (h : Fin 8) (b : Fin 2) (j : Fin 1024) (d : Fin 128) : k0_pay1 v (ix4 h b j d) = v (ix4 h b j d) := by
  pointwise [k0_pay1]

end Cert.KernelIdeal.Pf

end
-- ==== Proof.Staged.lean ====
/-
What the region is handed, read at an index of the program's arguments, and what a device's result array ends as.
-/
module

public import proofs.«01_k».proof.Proof.KVal
public import proofs.«01_k».proof.Proof.Run

@[expose] public section

noncomputable section

namespace Cert.KernelIdeal.Pf

open Cert.KernelIdeal Cert.KernelIdeal.Gen
open Idealize.ShloMosaic
open Idealize.ShloMosaic.TcCoe
open Cert.Attend hiding colOf

variable (m : (ℓ : Loc nD τ sig) → Buf (Elt Ideal) ℓ) (c : Dev nD)

/-! ## Each window is its whole array -/

theorem gX_eq : gX m c = V m c main_v2 :=
  funext fun i => congrArg (V m c main_v2) (funext fun a => Fin.ext
    (Pipeline.Window.rect_emb_val_of_index_zero (cfg0.win 0) t0_0 a (by fin_cases a <;> rfl) i))

theorem gW_eq : gW m c = V m c main_v3 :=
  funext fun i => congrArg (V m c main_v3) (funext fun a => Fin.ext
    (Pipeline.Window.rect_emb_val_of_index_zero (cfg0.win 1) t0_0 a (by fin_cases a <;> rfl) i))

theorem gK_eq : gK m c = V m c main_v13 :=
  funext fun i => congrArg (V m c main_v13) (funext fun a => Fin.ext
    (Pipeline.Window.rect_emb_val_of_index_zero (cfg0.win 2) t0_0 a (by fin_cases a <;> rfl) i))

theorem gO_eq : gO m c = V m c main_v4 :=
  funext fun i => congrArg (V m c main_v4) (funext fun a => Fin.ext
    (Pipeline.Window.rect_emb_val_of_index_zero (cfg0.win 3) t0_0 a (by fin_cases a <;> rfl) i))

/-! ## The host's casts and layouts change no element -/

theorem x_apply (i e : Fin 1024) : V m c main_v2 (ix2 i e) = m ((c : Thread nD τ).loc main_arg0) (ix3 0 i e) := by
  unfold V
  simp only [hostOps0]
  after_results_simp
  pointwise []

theorem wq_apply (i e : Fin 1024) : V m c main_v3 (ix2 i e) = m ((c : Thread nD τ).loc main_arg1) (ix2 i e) := by
  unfold V
  simp only [hostOps0]
  after_results_simp
  pointwise []

theorem wo_apply (i e : Fin 1024) : V m c main_v4 (ix2 i e) = m ((c : Thread nD τ).loc main_arg4) (ix2 i e) := by
  unfold V
  simp only [hostOps0]
  after_results_simp
  pointwise []

theorem keys_apply (h : Fin 8) (j : Fin 1024) (d : Fin 128) : V m c main_v13 (ix4 h 0 j d) = m ((c : Thread nD τ).loc main_arg2) (ix4 0 j h d) := by
  unfold V
  simp only [hostOps0]
  after_results_simp
  pointwise []

theorem values_apply (h : Fin 8) (j : Fin 1024) (d : Fin 128) : V m c main_v13 (ix4 h 1 j d) = m ((c : Thread nD τ).loc main_arg3) (ix4 0 j h d) := by
  unfold V
  simp only [hostOps0]
  after_results_simp
  pointwise []

/-! ## The result -/

/-- The result array ends as what the body left in its staging buffer. -/
theorem out_eq : out m c = res m c := by
  have hd : ∀ t t' : Fin cfg0.N, (cfg0.win 4).flush t = true → (cfg0.win 4).flush t' = true → t ≠ t' →
      Disjoint ((cfg0.win 4).blk t).view.set ((cfg0.win 4).blk t').view.set := fun t t' _ _ h => absurd (Subsingleton.elim (α := Fin 1) t t') h
  have h := Pipeline.Dat.read_blk_arrAt_eq_flushed (dat := dats m 0 c) 4 hd cfg0.N t0_0 t0_0.isLt (flush0_4 t0_0)
  have e : ((cfg0.win 4).blk t0_0).view.read (Elt Ideal) (out m c) = out m c :=
    funext fun i => congrArg (out m c) (funext fun a => Fin.ext
      (Pipeline.Window.rect_emb_val_of_index_zero (cfg0.win 4) t0_0 a (by fin_cases a <;> rfl) i))
  exact e.symm.trans (h.trans rfl)

/-- A device's result: its context, over device 0's keys and values, times the output weights. -/
theorem res_apply (x : FVec Ideal S1x1024x1024 .f32) (wq wo : FVec Ideal S1024x1024 .f32) (k v : FVec Ideal S1x1024x8x128 .f32)
    (hx : m ((c : Thread nD τ).loc main_arg0) = x) (hq : m ((c : Thread nD τ).loc main_arg1) = wq) (hk : m (((0 : Dev nD) : Thread nD τ).loc main_arg2) = k)
    (hv : m (((0 : Dev nD) : Thread nD τ).loc main_arg3) = v) (ho : m ((c : Thread nD τ).loc main_arg4) = wo) (i l : Fin 1024) :
    res m c (ix2 i l) = ∑ e : Fin 1024,
      attend (fun j : Fin 1024 => score (seen i j) (fun d => ∑ f, x (ix3 0 i f) * wq (ix2 f (Cert.Attend.colOf (headOf e) d))) (fun d => k (ix4 0 j (headOf e) d)))
        (fun j => v (ix4 0 j (headOf e) (laneOf e))) * wo (ix2 e l) := by
  subst hx hq hk hv ho
  unfold res outOf KV0
  rw [gX_eq, gW_eq, gK_eq, gO_eq]
  refine (result_apply _ _ i l).trans (Finset.sum_congr rfl fun e _ => ?_)
  rw [ctxEnd_apply, wo_apply]
  simp only [query_apply, fill_apply]
  refine congrArg (· * _) (congrArg₂ attend (funext fun j => congrArg₂ (score (seen i j)) (funext fun d => Finset.sum_congr rfl fun f _ => ?_) (funext fun d => ?_)) (funext fun j => ?_))
  · exact congrArg₂ (fun a b : EReal => a * b) (x_apply m c i f) (wq_apply m c f _)
  · exact keys_apply m 0 _ j d
  · exact values_apply m 0 _ j _

end Cert.KernelIdeal.Pf

end
-- ==== Proof.Ref.lean ====
/-
The reference, in stages: its mask, its scores, its weights, its context and its result, each read at an index.
-/
module

public import proofs.«01_k».proof.Proof.Attend
public import proofs.«01_k».proof.Proof.Blocks
public import proofs.«01_k».proof.Proof.Gen.ReferenceIdeal.Run
public import proofs.«01_k».proof.Proof.Gen.ReferenceIdeal

@[expose] public section

noncomputable section

namespace Cert.ReferenceIdeal.Pf

open Cert.ReferenceIdeal Cert.ReferenceIdeal.Facts₀ Cert.ReferenceIdeal.Facts
open Idealize.ShloMosaic
open Idealize.ShloMosaic.TcCoe
open Cert.Attend

/-- The block of a key. -/
def keyBlk : IVec S4096 32 :=
  select (andi (cmpi .ne (signi (iotaInDim S4096 32 0)) (broadcastInDim S4096 ![] bcast_S_S4096 (signi (id (constantI S_ 32 64#32)))))
      (cmpi .ne (Host.remsi (iotaInDim S4096 32 0) (broadcastInDim S4096 ![] bcast_S_S4096 (id (constantI S_ 32 64#32)))) (broadcastInDim S4096 ![] bcast_S_S4096 (constantI S_ 32 0#32))))
    (subi (Host.divsi (iotaInDim S4096 32 0) (broadcastInDim S4096 ![] bcast_S_S4096 (id (constantI S_ 32 64#32)))) (broadcastInDim S4096 ![] bcast_S_S4096 (constantI S_ 32 1#32)))
    (Host.divsi (iotaInDim S4096 32 0) (broadcastInDim S4096 ![] bcast_S_S4096 (id (constantI S_ 32 64#32))))

/-- The block of a query. -/
def queryBlk : IVec S1024 32 :=
  select (andi (cmpi .ne (signi (iotaInDim S1024 32 0)) (broadcastInDim S1024 ![] bcast_S_S1024 (signi (id (constantI S_ 32 64#32)))))
      (cmpi .ne (Host.remsi (iotaInDim S1024 32 0) (broadcastInDim S1024 ![] bcast_S_S1024 (id (constantI S_ 32 64#32)))) (broadcastInDim S1024 ![] bcast_S_S1024 (constantI S_ 32 0#32))))
    (subi (Host.divsi (iotaInDim S1024 32 0) (broadcastInDim S1024 ![] bcast_S_S1024 (id (constantI S_ 32 64#32)))) (broadcastInDim S1024 ![] bcast_S_S1024 (constantI S_ 32 1#32)))
    (Host.divsi (iotaInDim S1024 32 0) (broadcastInDim S1024 ![] bcast_S_S1024 (id (constantI S_ 32 64#32))))

/-- Which keys a query sees. -/
def sees : IVec S1024x4096 1 :=
  cmpi .sle (broadcastInDim S1024x4096 ![0, 1] bcast_S1x4096_S1024x4096_0_1 (broadcastInDim S1x4096 ![1] bcast_S4096_S1x4096_1 keyBlk))
    (broadcastInDim S1024x4096 ![0, 1] bcast_S1024x1_S1024x4096_0_1 (broadcastInDim S1024x1 ![0] bcast_S1024_S1024x1_0 queryBlk))

/-- The queries that see a key, as the reference lays them out. -/
def keeps : IVec S1x1x1024x1 1 :=
  broadcastInDim S1x1x1024x1 ![2] bcast_S1024_S1x1x1024x1_2 (Host.reduce IntOp.ori sees (constantI S_ 1 0#1) reducesTo_S1024x4096_S1024_d1 h_S_)

/-- The scores: minus infinity where the mask is off. -/
def scoresR (see : IVec S1024x4096 1) (x : FVec Ideal S1x1024x1024 .f32) (wq : FVec Ideal S1024x1024 .f32) (k : FVec Ideal S1x4096x8x128 .f32) : FVec Ideal S1x8x1024x4096 .f32 :=
  select (broadcastInDim S1x8x1024x4096 ![0, 1, 2, 3] bcast_S1x1x1024x4096_S1x8x1024x4096_0_1_2_3 (broadcastInDim S1x1x1024x4096 ![2, 3] bcast_S1024x4096_S1x1x1024x4096_2_3 see))
    (mulf (Host.dotGeneral dot_S1x1024x8x128_S1x4096x8x128_S1x8x1024x4096_3_3_1_1_02_02 none
        (shapeCast S1x1024x8x128 (Host.dotGeneral dot_S1x1024x1024_S1024x1024_S1x1024x1024_2_0_01_1_n_n none x wq) shapeCasts_S1x1024x1024_S1x1024x8x128) k)
      (broadcastInDim S1x8x1024x4096 ![] bcast_S_S1x8x1024x4096 (constant S_ .f32 0x3DB504F3#32)))
    (broadcastInDim S1x8x1024x4096 ![] bcast_S_S1x8x1024x4096 (id (constant S_ .f32 0xFF800000#32)))

/-- The exponentials of the scores. -/
def expR (s : FVec Ideal S1x8x1024x4096 .f32) : FVec Ideal S1x8x1024x4096 .f32 :=
  Host.exp (subf s (broadcastInDim S1x8x1024x4096 ![0, 1, 2, 3] bcast_S1x8x1024x1_S1x8x1024x4096_0_1_2_3 (broadcastInDim S1x8x1024x1 ![0, 1, 2] bcast_S1x8x1024_S1x8x1024x1_0_1_2
    (Host.reduce FloatOps.maximumf s (constant S_ .f32 0xFF800000#32) reducesTo_S1x8x1024x4096_S1x8x1024_d3 h_S_))))

/-- The weights of a query's keys. -/
def weightR (kp : IVec S1x1x1024x1 1) (e : FVec Ideal S1x8x1024x4096 .f32) : FVec Ideal S1x8x1024x4096 .f32 :=
  select (broadcastInDim S1x8x1024x4096 ![0, 1, 2, 3] bcast_S1x1x1024x1_S1x8x1024x4096_0_1_2_3 kp)
    (Host.divf e (broadcastInDim S1x8x1024x4096 ![0, 1, 2, 3] bcast_S1x8x1024x1_S1x8x1024x4096_0_1_2_3
      (select (broadcastInDim S1x8x1024x1 ![0, 1, 2, 3] bcast_S1x1x1024x1_S1x8x1024x1_0_1_2_3 kp)
        (broadcastInDim S1x8x1024x1 ![0, 1, 2] bcast_S1x8x1024_S1x8x1024x1_0_1_2 (Host.reduceAdd e (constant S_ .f32 0x00000000#32) reducesTo_S1x8x1024x4096_S1x8x1024_d3 h_S_))
        (broadcastInDim S1x8x1024x1 ![] bcast_S_S1x8x1024x1 (id (constant S_ .f32 0x3F800000#32))))))
    (broadcastInDim S1x8x1024x4096 ![] bcast_S_S1x8x1024x4096 (id (constant S_ .f32 0x00000000#32)))

/-- The context. -/
def ctxR (w : FVec Ideal S1x8x1024x4096 .f32) (v : FVec Ideal S1x4096x8x128 .f32) : FVec Ideal S1x1024x1024 .f32 :=
  shapeCast S1x1024x1024 (transpose S1x1024x8x128 [0, 3, 1, 2] (Host.dotGeneral dot_S1x4096x8x128_S1x8x1024x4096_S1x8x128x1024_1_3_3_2_02_01 none v w)
    transposes_S1x8x128x1024_S1x1024x8x128_0_3_1_2) shapeCasts_S1x1024x8x128_S1x1024x1024

/-- The result. -/
def outR (ctx : FVec Ideal S1x1024x1024 .f32) (wo : FVec Ideal S1024x1024 .f32) : FVec Ideal S1024x1024 .f32 :=
  shapeCast S1024x1024 (Host.dotGeneral dot_S1x1024x1024_S1024x1024_S1x1024x1024_2_0_01_1_n_n none ctx wo) shapeCasts_S1x1024x1024_S1024x1024

theorem res_stages (m : (ℓ : Loc nD τ sig) → Buf (Elt Ideal) ℓ) (c : Dev nD) :
    Cert.ReferenceIdeal.Value.res_out0 m c
      = outR (ctxR (weightR keeps (expR (scoresR sees (m ((c.tc : Thread nD τ).loc main_arg0)) (m ((c.tc : Thread nD τ).loc main_arg1)) (m ((c.tc : Thread nD τ).loc main_arg2)))))
          (m ((c.tc : Thread nD τ).loc main_arg3))) (m ((c.tc : Thread nD τ).loc main_arg4)) := rfl

/-! ## Read at an index -/

theorem keyBlk_apply (j : Fin 4096) : keyBlk (ix1 j) = BitVec.ofNat 32 (j.val / 64) := by
  pointwise [keyBlk]
  exact host_block j

theorem queryBlk_apply (i : Fin 1024) : queryBlk (ix1 i) = BitVec.ofNat 32 (i.val / 64) := by
  pointwise [queryBlk]
  exact host_block ⟨i.val, by have := i.isLt; omega⟩

theorem sees_apply (i : Fin 1024) (j : Fin 4096) : sees (ix2 i j) = seen i j := by
  pointwise [sees]
  rw [keyBlk_apply, queryBlk_apply]
  exact cmp_seen i j (by have := i.isLt; omega) j.isLt

theorem keeps_apply (i : Fin 1024) : keeps (ix4 0 0 i 0) = 1#1 := by
  pointwise [keeps]
  refine any_of _ 0 ?_
  rw [sees_apply, seen, if_pos]
  exact Nat.zero_le _

theorem scoresR_apply (see : IVec S1024x4096 1) (x : FVec Ideal S1x1024x1024 .f32) (wq : FVec Ideal S1024x1024 .f32) (k : FVec Ideal S1x4096x8x128 .f32) (h : Fin 8) (i : Fin 1024) (j : Fin 4096) :
    scoresR see x wq k (ix4 0 h i j)
      = score (see (ix2 i j)) (fun d => ∑ e, x (ix3 0 i e) * wq (ix2 e ⟨h.val * 128 + d.val, by have := h.isLt; have := d.isLt; omega⟩)) (fun d => k (ix4 0 j h d)) := by
  pointwise [scoresR]
  rw [score]
  congr 1

theorem expR_apply (s : FVec Ideal S1x8x1024x4096 .f32) (h : Fin 8) (i : Fin 1024) (j : Fin 4096) :
    expR s (ix4 0 h i j) = Ideal.exp (s (ix4 0 h i j) - top fun j => s (ix4 0 h i j)) := by
  pointwise [expR]
  rw [neg_inf, top]

theorem weightR_apply (kp : IVec S1x1x1024x1 1) (e : FVec Ideal S1x8x1024x4096 .f32) (h : Fin 8) (i : Fin 1024) (j : Fin 4096) (hk : kp (ix4 0 0 i 0) = 1#1) :
    weightR kp e (ix4 0 h i j) = Ideal.div (e (ix4 0 h i j)) (∑ j, e (ix4 0 h i j)) := by
  pointwise [weightR]
  rw [hk]
  rfl

theorem ctxR_apply (w : FVec Ideal S1x8x1024x4096 .f32) (v : FVec Ideal S1x4096x8x128 .f32) (i : Fin 1024) (l : Fin 1024) :
    ctxR w v (ix3 0 i l) = ∑ j, v (ix4 0 j (headOf l) (laneOf l)) * w (ix4 0 (headOf l) i j) := by
  pointwise [ctxR]
  rfl

theorem outR_apply (s : FVec Ideal S1x1024x1024 .f32) (v : FVec Ideal S1024x1024 .f32) (i : Fin 1024) (l : Fin 1024) :
    outR s v (ix2 i l) = ∑ e, s (ix3 0 i e) * v (ix2 e l) := by
  pointwise [outR]

/-- A query's context: attention over all the keys. -/
theorem context_apply (x : FVec Ideal S1x1024x1024 .f32) (wq : FVec Ideal S1024x1024 .f32) (k v : FVec Ideal S1x4096x8x128 .f32) (i : Fin 1024) (l : Fin 1024) :
    ctxR (weightR keeps (expR (scoresR sees x wq k))) v (ix3 0 i l)
      = attend (fun j : Fin 4096 => score (seen i j) (fun d => ∑ e, x (ix3 0 i e) * wq (ix2 e (colOf (headOf l) d))) (fun d => k (ix4 0 j (headOf l) d)))
          (fun j => v (ix4 0 j (headOf l) (laneOf l))) := by
  rw [ctxR_apply, attend]
  refine Finset.sum_congr rfl fun j _ => ?_
  rw [weightR_apply _ _ _ _ _ (keeps_apply i), mul_comm]
  simp only [expR_apply, scoresR_apply, sees_apply, mass]
  rfl

end Cert.ReferenceIdeal.Pf

end
-- ==== Proof.Equal.lean ====
/-
The kernel and the reference compute the same numbers where the scores are finite.
-/
module

public import proofs.«01_k».proof.Proof.Staged
public import proofs.«01_k».proof.Proof.Ref
public import proofs.«01_k».proof.Pre_finite_scores_KernelIdeal
public import Idealize.ShloMosaic.Lib.Layout

@[expose] public section

noncomputable section

namespace Cert.Proof

open Idealize.ShloMosaic
open Idealize.ShloMosaic.TcCoe
open Cert.Attend

/-! ## What the precondition says -/

/-- Below infinity in size is finite. -/
theorem tame_of_lt (x : EReal) (h : Ideal.cmp .olt (max x (-x)) (Ideal.ofBits .f32 0x7F800000#32) = 1#1) : Tame x := by
  have e : Ideal.ofBits .f32 0x7F800000#32 = ⊤ := by simp [Ideal.ofBits, Ideal.ieee]
  rw [e] at h
  induction x using EReal.rec with
  | bot => simp [Ideal.cmp] at h
  | coe r => exact ⟨EReal.coe_ne_top r, EReal.coe_ne_bot r⟩
  | top => simp [Ideal.cmp] at h

section Pre
variable [Cert.Pre_finite_scores_KernelIdeal.Facts]
open Cert.Pre_finite_scores_KernelIdeal
variable (x : FVec Ideal S1x1024x1024 .f32) (wq wo : FVec Ideal S1024x1024 .f32) (k v : FVec Ideal S1x1024x8x128 .f32)

theorem tame_x (h : (fn x wq k v wo).1 = fun _ => 1#1) (i e : Fin 1024) : Tame (x (ix3 0 i e)) := by
  have h := congrFun h (ix3 0 i e)
  unfold fn at h
  revert h
  pointwise []
  exact tame_of_lt _

theorem tame_wq (h : (fn x wq k v wo).2.1 = fun _ => 1#1) (i e : Fin 1024) : Tame (wq (ix2 i e)) := by
  have h := congrFun h (ix2 i e)
  unfold fn at h
  revert h
  pointwise []
  exact tame_of_lt _

theorem tame_k (h : (fn x wq k v wo).2.2 = fun _ => 1#1) (j : Fin 1024) (b : Fin 8) (d : Fin 128) : Tame (k (ix4 0 j b d)) := by
  have h := congrFun h (ix4 0 j b d)
  unfold fn at h
  revert h
  pointwise []
  exact tame_of_lt _
end Pre

/-! ## Device 0's block -/

theorem block0_apply (K : FVec Ideal ⟨4, ![1, 4096, 8, 128]⟩ .f32) (j : Fin 1024) (b : Fin 8) (d : Fin 128) :
    (Layout.block ⟨4, ![1, 1024, 8, 128]⟩ ⟨4, ![1, 4096, 8, 128]⟩ 1 4 0 K : FVec Ideal ⟨4, ![1, 1024, 8, 128]⟩ .f32) (ix4 0 j b d)
      = K (ix4 0 (lo (n := 4096) (b := 3072) rfl j) b d) := by
  rw [Layout.block_apply]
  refine congrArg K (funext fun a => Fin.ext ?_)
  rw [Layout.Tiles.idx_val]
  fin_cases a <;> simp [ix4, lo]

/-! ## One query's context -/

/-- The keys past the first 1024 are hidden from every query, and each query sees the first. -/
theorem attend_eq (q : Fin 128 → EReal) (K : Fin 4096 → Fin 128 → EReal) (V : Fin 4096 → EReal) (i : Fin 1024)
    (hq : ∀ d, Tame (q d)) (hK : ∀ (j : Fin 1024) d, Tame (K (lo (n := 4096) (b := 3072) rfl j) d)) :
    attend (fun j : Fin 4096 => score (seen i j) q (K j)) V
      = attend (fun j : Fin 1024 => score (seen i j) q (K (lo (n := 4096) (b := 3072) rfl j))) (fun j => V (lo (n := 4096) (b := 3072) rfl j)) := by
  have hidden : ∀ j : Fin 4096, 1024 ≤ j.val → seen i j = 0#1 := fun j hj => by
    have := i.isLt
    rw [seen, if_neg (by omega)]
  refine attend_lo (a := 1024) (b := 3072) rfl _ _ (fun j hj => by rw [hidden j hj]; rfl) ?_
  refine mass_ne_zero _ (fun j => score_ne_top _ _ _ ?_) 0 ?_
  · by_cases hj : 1024 ≤ j.val
    · exact .inl (hidden j hj)
    · exact .inr (score_on_tame _ _ hq (hK ⟨j.val, by omega⟩))
  · rw [show seen i (0 : Fin 4096) = 1#1 from if_pos (by simp)]
    exact (score_on_tame _ _ hq (hK 0)).2

/-! ## The results -/

theorem out_eq_ref (m : (ℓ : Loc Cert.KernelIdeal.nD Cert.KernelIdeal.τ Cert.KernelIdeal.sig) → Buf (Elt Ideal) ℓ) (c : Dev Cert.KernelIdeal.nD)
    (x : FVec Ideal Cert.KernelIdeal.S1x1024x1024 .f32) (wq wo : FVec Ideal Cert.KernelIdeal.S1024x1024 .f32) (K V : FVec Ideal ⟨4, ![1, 4096, 8, 128]⟩ .f32)
    (hx : m ((c : Thread Cert.KernelIdeal.nD Cert.KernelIdeal.τ).loc Cert.KernelIdeal.main_arg0) = x)
    (hq : m ((c : Thread Cert.KernelIdeal.nD Cert.KernelIdeal.τ).loc Cert.KernelIdeal.main_arg1) = wq)
    (hk : m (((0 : Dev Cert.KernelIdeal.nD) : Thread Cert.KernelIdeal.nD Cert.KernelIdeal.τ).loc Cert.KernelIdeal.main_arg2)
      = (Layout.block ⟨4, ![1, 1024, 8, 128]⟩ ⟨4, ![1, 4096, 8, 128]⟩ 1 4 0 K : FVec Ideal ⟨4, ![1, 1024, 8, 128]⟩ .f32))
    (hv : m (((0 : Dev Cert.KernelIdeal.nD) : Thread Cert.KernelIdeal.nD Cert.KernelIdeal.τ).loc Cert.KernelIdeal.main_arg3)
      = (Layout.block ⟨4, ![1, 1024, 8, 128]⟩ ⟨4, ![1, 4096, 8, 128]⟩ 1 4 0 V : FVec Ideal ⟨4, ![1, 1024, 8, 128]⟩ .f32))
    (ho : m ((c : Thread Cert.KernelIdeal.nD Cert.KernelIdeal.τ).loc Cert.KernelIdeal.main_arg4) = wo)
    (tx : ∀ i e : Fin 1024, Tame (x (ix3 0 i e))) (tq : ∀ i e : Fin 1024, Tame (wq (ix2 i e)))
    (tk : ∀ (j : Fin 1024) (b : Fin 8) (d : Fin 128),
      Tame ((Layout.block ⟨4, ![1, 1024, 8, 128]⟩ ⟨4, ![1, 4096, 8, 128]⟩ 1 4 0 K : FVec Ideal ⟨4, ![1, 1024, 8, 128]⟩ .f32) (ix4 0 j b d))) :
    Cert.KernelIdeal.Pf.out m c
      = Cert.ReferenceIdeal.Pf.outR (Cert.ReferenceIdeal.Pf.ctxR (Cert.ReferenceIdeal.Pf.weightR Cert.ReferenceIdeal.Pf.keeps
          (Cert.ReferenceIdeal.Pf.expR (Cert.ReferenceIdeal.Pf.scoresR Cert.ReferenceIdeal.Pf.sees x wq K))) V) wo := by
  rw [Cert.KernelIdeal.Pf.out_eq]
  refine funext fun y => ?_
  obtain ⟨i, l, rfl⟩ : ∃ i l : Fin 1024, y = ix2 i l := ⟨y 0, y 1, by funext a; fin_cases a <;> rfl⟩
  refine (Cert.KernelIdeal.Pf.res_apply m c x wq wo _ _ hx hq hk hv ho i l).trans ?_
  refine Eq.trans ?_ (Cert.ReferenceIdeal.Pf.outR_apply _ wo i l).symm
  have each (e : Fin 1024) := Cert.ReferenceIdeal.Pf.context_apply x wq K V i e
  have cut (e : Fin 1024) := attend_eq (fun d => ∑ f, x (ix3 0 i f) * wq (ix2 f (colOf (headOf e) d))) (fun j d => K (ix4 0 j (headOf e) d))
    (fun j => V (ix4 0 j (headOf e) (laneOf e))) i (fun d => Tame.sum _ _ fun f => (tx i f).mul (tq f _)) (fun j d => block0_apply K j (headOf e) d ▸ tk j (headOf e) d)
  simp only [each, cut, block0_apply]

end Cert.Proof

end
-- ==== Proof.lean ====
/-
The claims: the printed program, the idealised one and the reference each end with their arguments as they were and
every semaphore at zero; the mask's constant is the one named; and where the scores are finite every device's result is
the reference's.
-/
module

public import proofs.«01_k».proof.Proof.Frames
public import proofs.«01_k».proof.Proof.Equal

@[expose] public section

noncomputable section

namespace Cert.Proof

open Idealize.ShloMosaic Idealize.SL.Sem
open Cert.KernelIdeal.Pf

theorem facts_kernel_pre : Cert.Pre_finite_scores_KernelIdeal.Facts := ⟨by decide, by decide, by decide⟩

theorem facts_reference_pre : Cert.Pre_finite_scores_ReferenceIdeal.Facts := ⟨by decide, by decide, by decide⟩

theorem same_values : Cert.algebraic_KernelIdeal_ReferenceIdeal_pre_finite_scores_KernelIdeal (hKernelIdeal := Cert.KernelIdeal.Gen.facts)
    (hReferenceIdeal := Cert.ReferenceIdeal.Gen.facts) (hPre_finite_scores_KernelIdeal := facts_kernel_pre) := by
  intro m g m' g' hp hin
  letI := facts_kernel_pre
  refine ⟨Cert.ReferenceIdeal.Value.res_out0 m' 0, ?_, ?_⟩
  · refine (θ_run (Cert.KernelIdeal.defs (F := Ideal)) _ _).mono (fun r h c => ⟨(h.1 c).1.trans ?_, (h.1 c).2⟩) (run_main m g)
    obtain ⟨hx, hq, -, -, ho⟩ := hin c
    obtain ⟨-, -, hk, hv, -⟩ := hin 0
    obtain ⟨px, pq, -⟩ := hp c
    obtain ⟨-, -, pk⟩ := hp 0
    rw [hx, hq] at px pq
    rw [hk] at pk
    exact (out_eq_ref m c _ _ _ _ _ hx hq hk hv ho (tame_x _ _ _ _ _ px) (tame_wq _ _ _ _ _ pq) (tame_k _ _ _ _ _ pk)).trans
      (Cert.ReferenceIdeal.Pf.res_stages m' 0).symm
  · exact (θ_run (Cert.ReferenceIdeal.defs (F := Ideal)) _ _).mono (fun r h => h 0) (Cert.ReferenceIdeal.Value.run m' g')

theorem claim : Cert.Claim := ⟨Cert.Kernel.Gen.facts, Cert.KernelIdeal.Gen.facts, Cert.ReferenceIdeal.Gen.facts, facts_kernel_pre, facts_reference_pre,
  frame_kernel, frame_ideal, fun m g _ => frame_ideal m g trivial, frame_reference, fun m g _ => frame_reference m g trivial, mask_named, same_values⟩

end Cert.Proof

end
